-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Scales (m : (ℓ : Loc Cert.Scales.nD Cert.Scales.τ Cert.Scales.sig) → Buf (Elt Bits) ℓ) : Prop :=
  True

def Pre_ScalesReference (m : (ℓ : Loc Cert.ScalesReference.nD Cert.ScalesReference.τ Cert.ScalesReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Scales [hScales : Cert.Scales.Facts] : Prop :=
  ∀ (m : (ℓ : Loc Cert.Scales.nD Cert.Scales.τ Cert.Scales.sig) → Buf (Elt Bits) ℓ) (g : Dev Cert.Scales.nD → PrngReg), Pre_Scales m →
    θ_run (Cert.Scales.defs (F := Bits)) (onTc (τ := Cert.Scales.τ) (Cert.Scales.main (F := Bits))) ⟨m, fun _ => 0, g⟩ (fun r => (∀ c : Dev Cert.Scales.nD,
      r.2.mem ((c.tc : Thread Cert.Scales.nD Cert.Scales.τ).loc Cert.Scales.main_arg0) = m ((c.tc : Thread Cert.Scales.nD Cert.Scales.τ).loc Cert.Scales.main_arg0))
      ∧ r.2.sem = fun _ => 0)

def quiescent_ScalesReference [hScalesReference : Cert.ScalesReference.Facts] : Prop :=
  ∀ (m : (ℓ : Loc Cert.ScalesReference.nD Cert.ScalesReference.τ Cert.ScalesReference.sig) → Buf (Elt Bits) ℓ) (g : Dev Cert.ScalesReference.nD → PrngReg), Pre_ScalesReference m →
    θ_run (Cert.ScalesReference.defs (F := Bits)) (onTc (τ := Cert.ScalesReference.τ) (Cert.ScalesReference.main (F := Bits))) ⟨m, fun _ => 0, g⟩ (fun r => (∀ c : Dev Cert.ScalesReference.nD,
      r.2.mem ((c.tc : Thread Cert.ScalesReference.nD Cert.ScalesReference.τ).loc Cert.ScalesReference.main_arg0) = m ((c.tc : Thread Cert.ScalesReference.nD Cert.ScalesReference.τ).loc Cert.ScalesReference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v22)) (v4 : (c : Dev Cert.KernelIdeal.nD) → Buf (Elt Ideal) ((c.tc : Thread Cert.KernelIdeal.nD Cert.KernelIdeal.τ).loc Cert.KernelIdeal.main_v3_0)) (v5 : (c : Dev Cert.KernelIdeal.nD) → Buf (Elt Ideal) ((c.tc : Thread Cert.KernelIdeal.nD Cert.KernelIdeal.τ).loc Cert.KernelIdeal.main_v23)) (v6 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v22) = v3 c
          ∧ r.2.mem ((c.tc : Thread Cert.KernelIdeal.nD Cert.KernelIdeal.τ).loc Cert.KernelIdeal.main_v3_0) = v4 c
          ∧ r.2.mem ((c.tc : Thread Cert.KernelIdeal.nD Cert.KernelIdeal.τ).loc Cert.KernelIdeal.main_v23) = v5 c
          ∧ r.2.mem ((c.tc : Thread Cert.KernelIdeal.nD Cert.KernelIdeal.τ).loc Cert.KernelIdeal.main_v19) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def bitexact_Scales_ScalesReference [hScales : Cert.Scales.Facts] [hScalesReference : Cert.ScalesReference.Facts] : Prop :=
  ∀ (m : (ℓ : Loc Cert.Scales.nD Cert.Scales.τ Cert.Scales.sig) → Buf (Elt Bits) ℓ) (g : Dev Cert.Scales.nD → PrngReg)
    (m' : (ℓ : Loc Cert.ScalesReference.nD Cert.ScalesReference.τ Cert.ScalesReference.sig) → Buf (Elt Bits) ℓ) (g' : Dev Cert.ScalesReference.nD → PrngReg), Pre_Scales m →
    (∀ c : Dev Cert.Scales.nD,
      m' ((c.tc : Thread Cert.ScalesReference.nD Cert.ScalesReference.τ).loc Cert.ScalesReference.main_arg0) = m ((c.tc : Thread Cert.Scales.nD Cert.Scales.τ).loc Cert.Scales.main_arg0)) →
    ∃ (v0 : (c : Dev Cert.Scales.nD) → Buf (Elt Bits) ((c.tc : Thread Cert.Scales.nD Cert.Scales.τ).loc Cert.Scales.main_v10)) (v1 : (c : Dev Cert.Scales.nD) → Buf (Elt Bits) ((c.tc : Thread Cert.Scales.nD Cert.Scales.τ).loc Cert.Scales.main_v12)) (v2 : (c : Dev Cert.Scales.nD) → Buf (Elt Bits) ((c.tc : Thread Cert.Scales.nD Cert.Scales.τ).loc Cert.Scales.main_v14)) (v3 : (c : Dev Cert.Scales.nD) → Buf (Elt Bits) ((c.tc : Thread Cert.Scales.nD Cert.Scales.τ).loc Cert.Scales.main_v6)) (v4 : (c : Dev Cert.Scales.nD) → Buf (Elt Bits) ((c.tc : Thread Cert.Scales.nD Cert.Scales.τ).loc Cert.Scales.main_v8)),
      θ_run (Cert.Scales.defs (F := Bits)) (onTc (τ := Cert.Scales.τ) (Cert.Scales.main (F := Bits))) ⟨m, fun _ => 0, g⟩ (fun r => ∀ c : Dev Cert.Scales.nD,
          r.2.mem ((c.tc : Thread Cert.Scales.nD Cert.Scales.τ).loc Cert.Scales.main_v10) = v0 c
          ∧ r.2.mem ((c.tc : Thread Cert.Scales.nD Cert.Scales.τ).loc Cert.Scales.main_v12) = v1 c
          ∧ r.2.mem ((c.tc : Thread Cert.Scales.nD Cert.Scales.τ).loc Cert.Scales.main_v14) = v2 c
          ∧ r.2.mem ((c.tc : Thread Cert.Scales.nD Cert.Scales.τ).loc Cert.Scales.main_v6) = v3 c
          ∧ r.2.mem ((c.tc : Thread Cert.Scales.nD Cert.Scales.τ).loc Cert.Scales.main_v8) = v4 c
          ∧ r.2.mem ((c.tc : Thread Cert.Scales.nD Cert.Scales.τ).loc Cert.Scales.main_arg0) = m ((c.tc : Thread Cert.Scales.nD Cert.Scales.τ).loc Cert.Scales.main_arg0))
      ∧ θ_run (Cert.ScalesReference.defs (F := Bits)) (onTc (τ := Cert.ScalesReference.τ) (Cert.ScalesReference.main (F := Bits))) ⟨m', fun _ => 0, g'⟩ (fun r => ∀ c : Dev Cert.ScalesReference.nD,
          r.2.mem ((c.tc : Thread Cert.ScalesReference.nD Cert.ScalesReference.τ).loc Cert.ScalesReference.main_v7) = v0 c
          ∧ r.2.mem ((c.tc : Thread Cert.ScalesReference.nD Cert.ScalesReference.τ).loc Cert.ScalesReference.main_v17) = v1 c
          ∧ r.2.mem ((c.tc : Thread Cert.ScalesReference.nD Cert.ScalesReference.τ).loc Cert.ScalesReference.main_v27) = v2 c
          ∧ r.2.mem ((c.tc : Thread Cert.ScalesReference.nD Cert.ScalesReference.τ).loc Cert.ScalesReference.main_v33) = v3 c
          ∧ r.2.mem ((c.tc : Thread Cert.ScalesReference.nD Cert.ScalesReference.τ).loc Cert.ScalesReference.main_v37) = v4 c
          ∧ r.2.mem ((c.tc : Thread Cert.ScalesReference.nD Cert.ScalesReference.τ).loc Cert.ScalesReference.main_arg0) = m' ((c.tc : Thread Cert.ScalesReference.nD Cert.ScalesReference.τ).loc Cert.ScalesReference.main_arg0))

def Claim : Prop :=
  ∃ (hKernel : Cert.Kernel.Facts) (hKernelIdeal : Cert.KernelIdeal.Facts) (hReferenceIdeal : Cert.ReferenceIdeal.Facts) (hScales : Cert.Scales.Facts) (hScalesReference : Cert.ScalesReference.Facts),
    quiescent_Kernel (hKernel := hKernel)
    ∧ quiescent_KernelIdeal (hKernelIdeal := hKernelIdeal)
    ∧ quiescent_ReferenceIdeal (hReferenceIdeal := hReferenceIdeal)
    ∧ quiescent_Scales (hScales := hScales)
    ∧ quiescent_ScalesReference (hScalesReference := hScalesReference)
    ∧ preserves_Kernel_KernelIdeal
    ∧ algebraic_KernelIdeal_ReferenceIdeal (hKernelIdeal := hKernelIdeal) (hReferenceIdeal := hReferenceIdeal)
    ∧ bitexact_Scales_ScalesReference (hScales := hScales) (hScalesReference := hScalesReference)
-- ==== Kernel.lean ====
abbrev S6x4096x6400 : Shape := ⟨3, ![6, 4096, 6400]⟩
abbrev S6400 : Shape := ⟨1, ![6400]⟩
abbrev S6400x3712 : Shape := ⟨2, ![6400, 3712]⟩
abbrev S6x4096x3712 : Shape := ⟨3, ![6, 4096, 3712]⟩
abbrev S3x16 : Shape := ⟨2, ![3, 16]⟩
abbrev S3 : Shape := ⟨1, ![3]⟩
abbrev S24576x6400 : Shape := ⟨2, ![24576, 6400]⟩
abbrev S24576x3712 : Shape := ⟨2, ![24576, 3712]⟩
abbrev S1x6400 : Shape := ⟨2, ![1, 6400]⟩
abbrev S8x128 : Shape := ⟨2, ![8, 128]⟩
abbrev S320x3712 : Shape := ⟨2, ![320, 3712]⟩
abbrev S1 : Shape := ⟨1, ![1]⟩
abbrev S1x320x3712 : Shape := ⟨3, ![1, 320, 3712]⟩
abbrev S1x1x1 : Shape := ⟨3, ![1, 1, 1]⟩
abbrev S256x6400 : Shape := ⟨2, ![256, 6400]⟩
abbrev S256x3712 : Shape := ⟨2, ![256, 3712]⟩
abbrev S256 : Shape := ⟨1, ![256]⟩
abbrev S256x1 : Shape := ⟨2, ![256, 1]⟩
abbrev S1x256x6400 : Shape := ⟨3, ![1, 256, 6400]⟩
abbrev S1x256x3712 : Shape := ⟨3, ![1, 256, 3712]⟩
abbrev S1024x640 : Shape := ⟨2, ![1024, 640]⟩
abbrev S1024x3712 : Shape := ⟨2, ![1024, 3712]⟩
abbrev S640x3712 : Shape := ⟨2, ![640, 3712]⟩
abbrev S1x1 : Shape := ⟨2, ![1, 1]⟩
abbrev S_ : Shape := ⟨0, ![]⟩
abbrev S3x1 : Shape := ⟨2, ![3, 1]⟩
abbrev S3x15 : Shape := ⟨2, ![3, 15]⟩

abbrev nBuf : Space → Nat
  | .hbm => 36
  | .vmem => 28
  | .smem => 6
  | _ => 0

abbrev bufTy : (tb : Table) → Fin (tcTables nBuf tb) → BufTy
  | .hbm, ⟨0, _⟩ => ⟨S6x4096x6400, .bf16⟩
  | .hbm, ⟨1, _⟩ => ⟨S6400, .bf16⟩
  | .hbm, ⟨2, _⟩ => ⟨S6400x3712, .bf16⟩
  | .hbm, ⟨3, _⟩ => ⟨S6x4096x3712, .bf16⟩
  | .hbm, ⟨4, _⟩ => ⟨S3x16, .f32⟩
  | .hbm, ⟨5, _⟩ => ⟨S3, .f32⟩
  | .hbm, ⟨6, _⟩ => ⟨S3, .f32⟩
  | .hbm, ⟨7, _⟩ => ⟨S24576x6400, .bf16⟩
  | .hbm, ⟨8, _⟩ => ⟨S24576x3712, .bf16⟩
  | .hbm, ⟨9, _⟩ => ⟨S1x6400, .bf16⟩
  | .hbm, ⟨10, _⟩ => ⟨S6400x3712, .fp8e4m3⟩
  | .hbm, ⟨11, _⟩ => ⟨S8x128, .f32⟩
  | .hbm, ⟨12, _⟩ => ⟨S24576x3712, .bf16⟩
  | .hbm, ⟨13, _⟩ => ⟨S24576x6400, .fp8e4m3⟩
  | .hbm, ⟨14, _⟩ => ⟨S8x128, .f32⟩
  | .hbm, ⟨15, _⟩ => ⟨S24576x6400, .bf16⟩
  | .hbm, ⟨16, _⟩ => ⟨S24576x3712, .fp8e5m2⟩
  | .hbm, ⟨17, _⟩ => ⟨S8x128, .f32⟩
  | .hbm, ⟨18, _⟩ => ⟨S6400x3712, .f32⟩
  | .hbm, ⟨19, _⟩ => ⟨S1x1, .f32⟩
  | .hbm, ⟨20, _⟩ => ⟨S_, .f32⟩
  | .hbm, ⟨21, _⟩ => ⟨S1x1, .f32⟩
  | .hbm, ⟨22, _⟩ => ⟨S_, .f32⟩
  | .hbm, ⟨23, _⟩ => ⟨S1x1, .f32⟩
  | .hbm, ⟨24, _⟩ => ⟨S_, .f32⟩
  | .hbm, ⟨25, _⟩ => ⟨S1, .f32⟩
  | .hbm, ⟨26, _⟩ => ⟨S1, .f32⟩
  | .hbm, ⟨27, _⟩ => ⟨S1, .f32⟩
  | .hbm, ⟨28, _⟩ => ⟨S3, .f32⟩
  | .hbm, ⟨29, _⟩ => ⟨S3x1, .f32⟩
  | .hbm, ⟨30, _⟩ => ⟨S3x15, .f32⟩
  | .hbm, ⟨31, _⟩ => ⟨S3x16, .f32⟩
  | .hbm, ⟨32, _⟩ => ⟨S6x4096x3712, .bf16⟩
  | .hbm, ⟨33, _⟩ => ⟨S6x4096x6400, .bf16⟩
  | .hbm, ⟨34, _⟩ => ⟨S6x4096x6400, .fp8e4m3⟩
  | .hbm, ⟨35, _⟩ => ⟨S6x4096x3712, .fp8e5m2⟩
  | .local _ .vmem, ⟨0, _⟩ => ⟨S320x3712, .bf16⟩
  | .local _ .vmem, ⟨1, _⟩ => ⟨S320x3712, .bf16⟩
  | .local _ .vmem, ⟨2, _⟩ => ⟨S320x3712, .fp8e4m3⟩
  | .local _ .vmem, ⟨3, _⟩ => ⟨S320x3712, .fp8e4m3⟩
  | .local _ .vmem, ⟨4, _⟩ => ⟨S8x128, .f32⟩
  | .local _ .vmem, ⟨5, _⟩ => ⟨S256x6400, .bf16⟩
  | .local _ .vmem, ⟨6, _⟩ => ⟨S256x6400, .bf16⟩
  | .local _ .vmem, ⟨7, _⟩ => ⟨S1x6400, .bf16⟩
  | .local _ .vmem, ⟨8, _⟩ => ⟨S6400x3712, .fp8e4m3⟩
  | .local _ .vmem, ⟨9, _⟩ => ⟨S256x3712, .bf16⟩
  | .local _ .vmem, ⟨10, _⟩ => ⟨S256x3712, .bf16⟩
  | .local _ .vmem, ⟨11, _⟩ => ⟨S256x6400, .fp8e4m3⟩
  | .local _ .vmem, ⟨12, _⟩ => ⟨S256x6400, .fp8e4m3⟩
  | .local _ .vmem, ⟨13, _⟩ => ⟨S8x128, .f32⟩
  | .local _ .vmem, ⟨14, _⟩ => ⟨S256x3712, .bf16⟩
  | .local _ .vmem, ⟨15, _⟩ => ⟨S256x3712, .bf16⟩
  | .local _ .vmem, ⟨16, _⟩ => ⟨S6400x3712, .fp8e4m3⟩
  | .local _ .vmem, ⟨17, _⟩ => ⟨S256x6400, .bf16⟩
  | .local _ .vmem, ⟨18, _⟩ => ⟨S256x6400, .bf16⟩
  | .local _ .vmem, ⟨19, _⟩ => ⟨S256x3712, .fp8e5m2⟩
  | .local _ .vmem, ⟨20, _⟩ => ⟨S256x3712, .fp8e5m2⟩
  | .local _ .vmem, ⟨21, _⟩ => ⟨S8x128, .f32⟩
  | .local _ .vmem, ⟨22, _⟩ => ⟨S1024x640, .fp8e4m3⟩
  | .local _ .vmem, ⟨23, _⟩ => ⟨S1024x640, .fp8e4m3⟩
  | .local _ .vmem, ⟨24, _⟩ => ⟨S1024x3712, .fp8e5m2⟩
  | .local _ .vmem, ⟨25, _⟩ => ⟨S1024x3712, .fp8e5m2⟩
  | .local _ .vmem, ⟨26, _⟩ => ⟨S640x3712, .f32⟩
  | .local _ .vmem, ⟨27, _⟩ => ⟨S640x3712, .f32⟩
  | .local _ .smem, ⟨0, _⟩ => ⟨S3, .f32⟩
  | .local _ .smem, ⟨1, _⟩ => ⟨S3, .f32⟩
  | .local _ .smem, ⟨2, _⟩ => ⟨S3, .f32⟩
  | .local _ .smem, ⟨3, _⟩ => ⟨S3, .f32⟩
  | .local _ .smem, ⟨4, _⟩ => ⟨S3, .f32⟩
  | .local _ .smem, ⟨5, _⟩ => ⟨S3, .f32⟩
  | _, _ => ⟨S6x4096x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc2_stg5_0 : Ref sig .tc := ⟨.vmem, 19, rfl⟩
abbrev cc2_stg5_1 : Ref sig .tc := ⟨.vmem, 20, rfl⟩
abbrev cc2_stg6_0 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc0_stg0_0 : Ref sig .tc := ⟨.smem, 0, rfl⟩
abbrev cc1_stg0_0 : Ref sig .tc := ⟨.smem, 1, rfl⟩
abbrev cc1_stg1_0 : Ref sig .tc := ⟨.smem, 2, rfl⟩
abbrev cc2_stg0_0 : Ref sig .tc := ⟨.smem, 3, rfl⟩
abbrev cc2_stg1_0 : Ref sig .tc := ⟨.smem, 4, rfl⟩
abbrev cc3_stg0_0 : Ref sig .tc := ⟨.smem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc2_sem0_0 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc3_sem0_0 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S320x3712 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x3712 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![96], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S3 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x6400 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x6400 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S6400x3712 .fp8e4m3 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x3712 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x6400 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S8x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![96], ![false]⟩

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .smem S3 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .smem S3 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x3712 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S6400x3712 .fp8e4m3 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x6400 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x3712 .fp8e5m2 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S8x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨3, ![10, 1, 24], ![false, false, false]⟩

def cc3_transform_0 (i : grid3.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .smem S3 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false, false]

abbrev stage3_1 : Fin 2 → Memref sig .tc .vmem S1024x640 .fp8e4m3 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1024x3712 .fp8e5m2 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true]

abbrev stage3_3 : Fin 2 → Memref sig .tc .vmem S640x3712 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]
-- ==== ReferenceIdeal.lean ====
abbrev S6x4096x6400 : Shape := ⟨3, ![6, 4096, 6400]⟩
abbrev S6400 : Shape := ⟨1, ![6400]⟩
abbrev S6400x3712 : Shape := ⟨2, ![6400, 3712]⟩
abbrev S6x4096x3712 : Shape := ⟨3, ![6, 4096, 3712]⟩
abbrev S3x16 : Shape := ⟨2, ![3, 16]⟩
abbrev S3 : Shape := ⟨1, ![3]⟩
abbrev S1 : Shape := ⟨1, ![1]⟩
abbrev S6x4096 : Shape := ⟨2, ![6, 4096]⟩
abbrev S6x4096x1 : Shape := ⟨3, ![6, 4096, 1]⟩
abbrev S1x1x6400 : Shape := ⟨3, ![1, 1, 6400]⟩
abbrev S1x6x4096x6400 : Shape := ⟨4, ![1, 6, 4096, 6400]⟩
abbrev S1x1x1x1 : Shape := ⟨4, ![1, 1, 1, 1]⟩
abbrev S1x6400x3712 : Shape := ⟨3, ![1, 6400, 3712]⟩
abbrev S1x1x1 : Shape := ⟨3, ![1, 1, 1]⟩
abbrev S1x6x4096x3712 : Shape := ⟨4, ![1, 6, 4096, 3712]⟩
abbrev S3x1 : Shape := ⟨2, ![3, 1]⟩
abbrev S3x15 : Shape := ⟨2, ![3, 15]⟩

abbrev nBuf : Space → Nat
  | .hbm => 14
  | .vmem => 14
  | .smem => 0
  | _ => 0

abbrev bufTy : (tb : Table) → Fin (tcTables nBuf tb) → BufTy
  | .hbm, ⟨0, _⟩ => ⟨S6x4096x6400, .bf16⟩
  | .hbm, ⟨1, _⟩ => ⟨S6400, .bf16⟩
  | .hbm, ⟨2, _⟩ => ⟨S6400x3712, .bf16⟩
  | .hbm, ⟨3, _⟩ => ⟨S6x4096x3712, .bf16⟩
  | .hbm, ⟨4, _⟩ => ⟨S3x16, .f32⟩
  | .hbm, ⟨5, _⟩ => ⟨S3, .f32⟩
  | .hbm, ⟨6, _⟩ => ⟨S3, .f32⟩
  | .hbm, ⟨7, _⟩ => ⟨S6x4096x3712, .bf16⟩
  | .hbm, ⟨8, _⟩ => ⟨S6x4096x6400, .bf16⟩
  | .hbm, ⟨9, _⟩ => ⟨S6400x3712, .f32⟩
  | .hbm, ⟨10, _⟩ => ⟨S6x4096x6400, .fp8e4m3⟩
  | .hbm, ⟨11, _⟩ => ⟨S6400x3712, .fp8e4m3⟩
  | .hbm, ⟨12, _⟩ => ⟨S6x4096x3712, .fp8e5m2⟩
  | .hbm, ⟨13, _⟩ => ⟨S3x16, .f32⟩
  | .local _ .vmem, ⟨0, _⟩ => ⟨S6x4096x6400, .bf16⟩
  | .local _ .vmem, ⟨1, _⟩ => ⟨S6400, .bf16⟩
  | .local _ .vmem, ⟨2, _⟩ => ⟨S6400x3712, .bf16⟩
  | .local _ .vmem, ⟨3, _⟩ => ⟨S6x4096x3712, .bf16⟩
  | .local _ .vmem, ⟨4, _⟩ => ⟨S3x16, .f32⟩
  | .local _ .vmem, ⟨5, _⟩ => ⟨S3, .f32⟩
  | .local _ .vmem, ⟨6, _⟩ => ⟨S3, .f32⟩
  | .local _ .vmem, ⟨7, _⟩ => ⟨S6x4096x3712, .bf16⟩
  | .local _ .vmem, ⟨8, _⟩ => ⟨S6x4096x6400, .bf16⟩
  | .local _ .vmem, ⟨9, _⟩ => ⟨S6400x3712, .f32⟩
  | .local _ .vmem, ⟨10, _⟩ => ⟨S6x4096x6400, .fp8e4m3⟩
  | .local _ .vmem, ⟨11, _⟩ => ⟨S6400x3712, .fp8e4m3⟩
  | .local _ .vmem, ⟨12, _⟩ => ⟨S6x4096x3712, .fp8e5m2⟩
  | .local _ .vmem, ⟨13, _⟩ => ⟨S3x16, .f32⟩
  | _, _ => ⟨S6x4096x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S6x4096x6400 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6400 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6400x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x4096x3712 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x4096x3712 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x4096x6400 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6400x3712 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x4096x6400 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6400x3712 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x4096x3712 .fp8e5m2 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Scales.lean ====
abbrev S3x16 : Shape := ⟨2, ![3, 16]⟩
abbrev S3 : Shape := ⟨1, ![3]⟩
abbrev S_ : Shape := ⟨0, ![]⟩
abbrev S1 : Shape := ⟨1, ![1]⟩

abbrev nBuf : Space → Nat
  | .hbm => 185
  | .vmem => 0
  | .smem => 0
  | _ => 0

abbrev hbmTy0_0 (i : Nat) : BufTy := match i % 128 with
  | 0 => ⟨S3x16, .f32⟩
  | 1 => ⟨S3, .f32⟩
  | 2 => ⟨S_, .f32⟩
  | 3 => ⟨S3, .f32⟩
  | 4 => ⟨S3, .f32⟩
  | 5 => ⟨S3, .i32⟩
  | 6 => ⟨S_, .i32⟩
  | 7 => ⟨S3, .i32⟩
  | 8 => ⟨S3, .i32⟩
  | 9 => ⟨S_, .i32⟩
  | 10 => ⟨S3, .i32⟩
  | 11 => ⟨S3, .i1⟩
  | 12 => ⟨S_, .i32⟩
  | 13 => ⟨S3, .i32⟩
  | 14 => ⟨S3, .i32⟩
  | 15 => ⟨S3, .i32⟩
  | 16 => ⟨S3, .f32⟩
  | 17 => ⟨S3, .i32⟩
  | 18 => ⟨S_, .i32⟩
  | 19 => ⟨S3, .i32⟩
  | 20 => ⟨S3, .i32⟩
  | 21 => ⟨S_, .i32⟩
  | 22 => ⟨S3, .i32⟩
  | 23 => ⟨S3, .i32⟩
  | 24 => ⟨S_, .i32⟩
  | 25 => ⟨S3, .i32⟩
  | 26 => ⟨S3, .i32⟩
  | 27 => ⟨S_, .i32⟩
  | 28 => ⟨S3, .i32⟩
  | 29 => ⟨S3, .i32⟩
  | 30 => ⟨S_, .i32⟩
  | 31 => ⟨S3, .i32⟩
  | 32 => ⟨S3, .i1⟩
  | 33 => ⟨S_, .i32⟩
  | 34 => ⟨S3, .i32⟩
  | 35 => ⟨S3, .i1⟩
  | 36 => ⟨S_, .i32⟩
  | 37 => ⟨S3, .i32⟩
  | 38 => ⟨S3, .i32⟩
  | 39 => ⟨S3, .i32⟩
  | 40 => ⟨S3, .i32⟩
  | 41 => ⟨S3, .i32⟩
  | 42 => ⟨S3, .i1⟩
  | 43 => ⟨S_, .i32⟩
  | 44 => ⟨S3, .i32⟩
  | 45 => ⟨S3, .i32⟩
  | 46 => ⟨S_, .i32⟩
  | 47 => ⟨S3, .i32⟩
  | 48 => ⟨S3, .i32⟩
  | 49 => ⟨S3, .i32⟩
  | 50 => ⟨S3, .f32⟩
  | 51 => ⟨S_, .f32⟩
  | 52 => ⟨S3, .f32⟩
  | 53 => ⟨S3, .i1⟩
  | 54 => ⟨S_, .i32⟩
  | 55 => ⟨S_, .i32⟩
  | 56 => ⟨S3, .i32⟩
  | 57 => ⟨S3, .i32⟩
  | 58 => ⟨S_, .f32⟩
  | 59 => ⟨S3, .f32⟩
  | 60 => ⟨S3, .i32⟩
  | 61 => ⟨S_, .i32⟩
  | 62 => ⟨S3, .i32⟩
  | 63 => ⟨S3, .i32⟩
  | 64 => ⟨S_, .i32⟩
  | 65 => ⟨S3, .i32⟩
  | 66 => ⟨S3, .i1⟩
  | 67 => ⟨S_, .i32⟩
  | 68 => ⟨S3, .i32⟩
  | 69 => ⟨S3, .i32⟩
  | 70 => ⟨S3, .i32⟩
  | 71 => ⟨S3, .f32⟩
  | 72 => ⟨S3, .i32⟩
  | 73 => ⟨S_, .i32⟩
  | 74 => ⟨S3, .i32⟩
  | 75 => ⟨S3, .i32⟩
  | 76 => ⟨S_, .i32⟩
  | 77 => ⟨S3, .i32⟩
  | 78 => ⟨S3, .i32⟩
  | 79 => ⟨S_, .i32⟩
  | 80 => ⟨S3, .i32⟩
  | 81 => ⟨S3, .i32⟩
  | 82 => ⟨S_, .i32⟩
  | 83 => ⟨S3, .i32⟩
  | 84 => ⟨S3, .i32⟩
  | 85 => ⟨S_, .i32⟩
  | 86 => ⟨S3, .i32⟩
  | 87 => ⟨S3, .i1⟩
  | 88 => ⟨S_, .i32⟩
  | 89 => ⟨S3, .i32⟩
  | 90 => ⟨S3, .i1⟩
  | 91 => ⟨S_, .i32⟩
  | 92 => ⟨S_, .i32⟩
  | 93 => ⟨S3, .i32⟩
  | 94 => ⟨S3, .i32⟩
  | 95 => ⟨S3, .i32⟩
  | 96 => ⟨S3, .i32⟩
  | 97 => ⟨S3, .i32⟩
  | 98 => ⟨S_, .i32⟩
  | 99 => ⟨S3, .i32⟩
  | 100 => ⟨S3, .i32⟩
  | 101 => ⟨S3, .i32⟩
  | 102 => ⟨S_, .i32⟩
  | 103 => ⟨S3, .i32⟩
  | 104 => ⟨S3, .i32⟩
  | 105 => ⟨S3, .i32⟩
  | 106 => ⟨S3, .i32⟩
  | 107 => ⟨S_, .i32⟩
  | 108 => ⟨S3, .i32⟩
  | 109 => ⟨S3, .i1⟩
  | 110 => ⟨S_, .i32⟩
  | 111 => ⟨S3, .i32⟩
  | 112 => ⟨S3, .i1⟩
  | 113 => ⟨S3, .i32⟩
  | 114 => ⟨S3, .i32⟩
  | 115 => ⟨S3, .i32⟩
  | 116 => ⟨S3, .i32⟩
  | 117 => ⟨S3, .f32⟩
  | 118 => ⟨S3, .i32⟩
  | 119 => ⟨S_, .f32⟩
  | 120 => ⟨S3, .f32⟩
  | 121 => ⟨S3, .i32⟩
  | 122 => ⟨S_, .i32⟩
  | 123 => ⟨S3, .i32⟩
  | 124 => ⟨S3, .i32⟩
  | 125 => ⟨S_, .i32⟩
  | 126 => ⟨S3, .i32⟩
  | 127 => ⟨S3, .i1⟩
  | _ => ⟨S3x16, .f32⟩

abbrev hbmTy0_1 (i : Nat) : BufTy := match i % 128 with
  | 0 => ⟨S_, .i32⟩
  | 1 => ⟨S3, .i32⟩
  | 2 => ⟨S3, .i32⟩
  | 3 => ⟨S3, .i32⟩
  | 4 => ⟨S3, .f32⟩
  | 5 => ⟨S3, .i32⟩
  | 6 => ⟨S_, .i32⟩
  | 7 => ⟨S3, .i32⟩
  | 8 => ⟨S3, .i32⟩
  | 9 => ⟨S_, .i32⟩
  | 10 => ⟨S3, .i32⟩
  | 11 => ⟨S3, .i32⟩
  | 12 => ⟨S_, .i32⟩
  | 13 => ⟨S3, .i32⟩
  | 14 => ⟨S3, .i32⟩
  | 15 => ⟨S_, .i32⟩
  | 16 => ⟨S3, .i32⟩
  | 17 => ⟨S3, .i32⟩
  | 18 => ⟨S_, .i32⟩
  | 19 => ⟨S3, .i32⟩
  | 20 => ⟨S3, .i1⟩
  | 21 => ⟨S_, .i32⟩
  | 22 => ⟨S3, .i32⟩
  | 23 => ⟨S3, .i1⟩
  | 24 => ⟨S_, .i32⟩
  | 25 => ⟨S_, .i32⟩
  | 26 => ⟨S3, .i32⟩
  | 27 => ⟨S3, .i32⟩
  | 28 => ⟨S3, .i32⟩
  | 29 => ⟨S3, .i32⟩
  | 30 => ⟨S3, .i32⟩
  | 31 => ⟨S_, .i32⟩
  | 32 => ⟨S3, .i32⟩
  | 33 => ⟨S3, .i32⟩
  | 34 => ⟨S3, .i32⟩
  | 35 => ⟨S_, .i32⟩
  | 36 => ⟨S3, .i32⟩
  | 37 => ⟨S3, .i32⟩
  | 38 => ⟨S3, .i32⟩
  | 39 => ⟨S3, .i32⟩
  | 40 => ⟨S_, .i32⟩
  | 41 => ⟨S3, .i32⟩
  | 42 => ⟨S3, .i1⟩
  | 43 => ⟨S_, .i32⟩
  | 44 => ⟨S3, .i32⟩
  | 45 => ⟨S3, .i1⟩
  | 46 => ⟨S3, .i32⟩
  | 47 => ⟨S3, .i32⟩
  | 48 => ⟨S3, .i32⟩
  | 49 => ⟨S3, .i32⟩
  | 50 => ⟨S3, .f32⟩
  | 51 => ⟨S1, .f32⟩
  | 52 => ⟨S_, .f32⟩
  | 53 => ⟨S1, .f32⟩
  | 54 => ⟨S_, .f32⟩
  | 55 => ⟨S1, .f32⟩
  | 56 => ⟨S_, .f32⟩
  | _ => ⟨S3x16, .f32⟩

abbrev hbmTy (i : Nat) : BufTy := match i / 128 with
  | 0 => hbmTy0_0 i
  | 1 => hbmTy0_1 i
  | _ => ⟨S3x16, .f32⟩

abbrev bufTy : (tb : Table) → Fin (tcTables nBuf tb) → BufTy
  | .hbm, ⟨i, _⟩ => hbmTy i
  | _, _ => ⟨S3x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_c_0 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_c_2 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_c_4 : Ref sig .tc := ⟨.hbm, 24, rfl⟩
abbrev main_call0_v14 : Ref sig .tc := ⟨.hbm, 25, rfl⟩
abbrev main_call0_v15 : Ref sig .tc := ⟨.hbm, 26, rfl⟩
abbrev main_call0_c_5 : Ref sig .tc := ⟨.hbm, 27, rfl⟩
abbrev main_call0_v16 : Ref sig .tc := ⟨.hbm, 28, rfl⟩
abbrev main_call0_v17 : Ref sig .tc := ⟨.hbm, 29, rfl⟩
abbrev main_call0_c_6 : Ref sig .tc := ⟨.hbm, 30, rfl⟩
abbrev main_call0_v18 : Ref sig .tc := ⟨.hbm, 31, rfl⟩
abbrev main_call0_v19 : Ref sig .tc := ⟨.hbm, 32, rfl⟩
abbrev main_call0_c_7 : Ref sig .tc := ⟨.hbm, 33, rfl⟩
abbrev main_call0_v20 : Ref sig .tc := ⟨.hbm, 34, rfl⟩
abbrev main_call0_v21 : Ref sig .tc := ⟨.hbm, 35, rfl⟩
abbrev main_call0_c_8 : Ref sig .tc := ⟨.hbm, 36, rfl⟩
abbrev main_call0_v22 : Ref sig .tc := ⟨.hbm, 37, rfl⟩
abbrev main_call0_v23 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_c_9 : Ref sig .tc := ⟨.hbm, 43, rfl⟩
abbrev main_call0_v28 : Ref sig .tc := ⟨.hbm, 44, rfl⟩
abbrev main_call0_v29 : Ref sig .tc := ⟨.hbm, 45, rfl⟩
abbrev main_call0_c_10 : Ref sig .tc := ⟨.hbm, 46, rfl⟩
abbrev main_call0_v30 : Ref sig .tc := ⟨.hbm, 47, rfl⟩
abbrev main_call0_v31 : Ref sig .tc := ⟨.hbm, 48, rfl⟩
abbrev main_v2_1 : Ref sig .tc := ⟨.hbm, 49, rfl⟩
abbrev main_v2_0 : Ref sig .tc := ⟨.hbm, 50, rfl⟩
abbrev main_cst_1 : Ref sig .tc := ⟨.hbm, 51, rfl⟩
abbrev main_v3 : Ref sig .tc := ⟨.hbm, 52, rfl⟩
abbrev main_v4 : Ref sig .tc := ⟨.hbm, 53, rfl⟩
abbrev main_c : Ref sig .tc := ⟨.hbm, 54, rfl⟩
abbrev main_call1_v0 : Ref sig .tc := ⟨.hbm, 55, rfl⟩
abbrev main_call1_v1 : Ref sig .tc := ⟨.hbm, 56, rfl⟩
abbrev main_v5 : Ref sig .tc := ⟨.hbm, 57, rfl⟩
abbrev main_cst_2 : Ref sig .tc := ⟨.hbm, 58, rfl⟩
abbrev main_call2_v0 : Ref sig .tc := ⟨.hbm, 59, rfl⟩
abbrev main_call2_v1 : Ref sig .tc := ⟨.hbm, 60, rfl⟩
abbrev main_call2_c : Ref sig .tc := ⟨.hbm, 61, rfl⟩
abbrev main_call2_v2 : Ref sig .tc := ⟨.hbm, 62, rfl⟩
abbrev main_call2_v3 : Ref sig .tc := ⟨.hbm, 63, rfl⟩
abbrev main_call2_c_0 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_c_2 : Ref sig .tc := ⟨.hbm, 73, rfl⟩
abbrev main_call2_v11 : Ref sig .tc := ⟨.hbm, 74, rfl⟩
abbrev main_call2_v12 : Ref sig .tc := ⟨.hbm, 75, rfl⟩
abbrev main_call2_c_3 : Ref sig .tc := ⟨.hbm, 76, rfl⟩
abbrev main_call2_v13 : Ref sig .tc := ⟨.hbm, 77, rfl⟩
abbrev main_call2_v14 : Ref sig .tc := ⟨.hbm, 78, rfl⟩
abbrev main_call2_c_4 : Ref sig .tc := ⟨.hbm, 79, rfl⟩
abbrev main_call2_v15 : Ref sig .tc := ⟨.hbm, 80, rfl⟩
abbrev main_call2_v16 : Ref sig .tc := ⟨.hbm, 81, rfl⟩
abbrev main_call2_c_5 : Ref sig .tc := ⟨.hbm, 82, rfl⟩
abbrev main_call2_v17 : Ref sig .tc := ⟨.hbm, 83, rfl⟩
abbrev main_call2_v18 : Ref sig .tc := ⟨.hbm, 84, rfl⟩
abbrev main_call2_c_6 : Ref sig .tc := ⟨.hbm, 85, rfl⟩
abbrev main_call2_v19 : Ref sig .tc := ⟨.hbm, 86, rfl⟩
abbrev main_call2_v20 : Ref sig .tc := ⟨.hbm, 87, rfl⟩
abbrev main_call2_c_7 : Ref sig .tc := ⟨.hbm, 88, rfl⟩
abbrev main_call2_v21 : Ref sig .tc := ⟨.hbm, 89, rfl⟩
abbrev main_call2_v22 : Ref sig .tc := ⟨.hbm, 90, rfl⟩
abbrev main_call2_c_8 : Ref sig .tc := ⟨.hbm, 91, rfl⟩
abbrev main_call2_c_9 : Ref sig .tc := ⟨.hbm, 92, rfl⟩
abbrev main_call2_v23 : Ref sig .tc := ⟨.hbm, 93, rfl⟩
abbrev main_call2_v24 : Ref sig .tc := ⟨.hbm, 94, rfl⟩
abbrev main_call2_v25 : Ref sig .tc := ⟨.hbm, 95, rfl⟩
abbrev main_call2_v26 : Ref sig .tc := ⟨.hbm, 96, rfl⟩
abbrev main_call2_v27 : Ref sig .tc := ⟨.hbm, 97, rfl⟩
abbrev main_call2_c_10 : Ref sig .tc := ⟨.hbm, 98, rfl⟩
abbrev main_call2_v28 : Ref sig .tc := ⟨.hbm, 99, rfl⟩
abbrev main_call2_v29 : Ref sig .tc := ⟨.hbm, 100, rfl⟩
abbrev main_call2_v30 : Ref sig .tc := ⟨.hbm, 101, rfl⟩
abbrev main_call2_c_11 : Ref sig .tc := ⟨.hbm, 102, rfl⟩
abbrev main_call2_v31 : Ref sig .tc := ⟨.hbm, 103, rfl⟩
abbrev main_call2_v32 : Ref sig .tc := ⟨.hbm, 104, rfl⟩
abbrev main_call2_v33 : Ref sig .tc := ⟨.hbm, 105, rfl⟩
abbrev main_call2_v34 : Ref sig .tc := ⟨.hbm, 106, rfl⟩
abbrev main_call2_c_12 : Ref sig .tc := ⟨.hbm, 107, rfl⟩
abbrev main_call2_v35 : Ref sig .tc := ⟨.hbm, 108, rfl⟩
abbrev main_call2_v36 : Ref sig .tc := ⟨.hbm, 109, rfl⟩
abbrev main_call2_c_13 : Ref sig .tc := ⟨.hbm, 110, rfl⟩
abbrev main_call2_v37 : Ref sig .tc := ⟨.hbm, 111, rfl⟩
abbrev main_call2_v38 : Ref sig .tc := ⟨.hbm, 112, rfl⟩
abbrev main_call2_v39 : Ref sig .tc := ⟨.hbm, 113, rfl⟩
abbrev main_call2_v40 : Ref sig .tc := ⟨.hbm, 114, rfl⟩
abbrev main_call2_v41 : Ref sig .tc := ⟨.hbm, 115, rfl⟩
abbrev main_call2_v42 : Ref sig .tc := ⟨.hbm, 116, rfl⟩
abbrev main_v6 : Ref sig .tc := ⟨.hbm, 117, rfl⟩
abbrev main_v7 : Ref sig .tc := ⟨.hbm, 118, rfl⟩
abbrev main_cst_3 : Ref sig .tc := ⟨.hbm, 119, rfl⟩
abbrev main_call3_v0 : Ref sig .tc := ⟨.hbm, 120, rfl⟩
abbrev main_call3_v1 : Ref sig .tc := ⟨.hbm, 121, rfl⟩
abbrev main_call3_c : Ref sig .tc := ⟨.hbm, 122, rfl⟩
abbrev main_call3_v2 : Ref sig .tc := ⟨.hbm, 123, rfl⟩
abbrev main_call3_v3 : Ref sig .tc := ⟨.hbm, 124, rfl⟩
abbrev main_call3_c_0 : Ref sig .tc := ⟨.hbm, 125, rfl⟩
abbrev main_call3_v4 : Ref sig .tc := ⟨.hbm, 126, rfl⟩
abbrev main_call3_v5 : Ref sig .tc := ⟨.hbm, 127, rfl⟩
abbrev main_call3_c_1 : Ref sig .tc := ⟨.hbm, 128, rfl⟩
abbrev main_call3_v6 : Ref sig .tc := ⟨.hbm, 129, rfl⟩
abbrev main_call3_v7 : Ref sig .tc := ⟨.hbm, 130, rfl⟩
abbrev main_call3_v8 : Ref sig .tc := ⟨.hbm, 131, rfl⟩
abbrev main_call3_v9 : Ref sig .tc := ⟨.hbm, 132, rfl⟩
abbrev main_call3_v10 : Ref sig .tc := ⟨.hbm, 133, rfl⟩
abbrev main_call3_c_2 : Ref sig .tc := ⟨.hbm, 134, rfl⟩
abbrev main_call3_v11 : Ref sig .tc := ⟨.hbm, 135, rfl⟩
abbrev main_call3_v12 : Ref sig .tc := ⟨.hbm, 136, rfl⟩
abbrev main_call3_c_3 : Ref sig .tc := ⟨.hbm, 137, rfl⟩
abbrev main_call3_v13 : Ref sig .tc := ⟨.hbm, 138, rfl⟩
abbrev main_call3_v14 : Ref sig .tc := ⟨.hbm, 139, rfl⟩
abbrev main_call3_c_4 : Ref sig .tc := ⟨.hbm, 140, rfl⟩
abbrev main_call3_v15 : Ref sig .tc := ⟨.hbm, 141, rfl⟩
abbrev main_call3_v16 : Ref sig .tc := ⟨.hbm, 142, rfl⟩
abbrev main_call3_c_5 : Ref sig .tc := ⟨.hbm, 143, rfl⟩
abbrev main_call3_v17 : Ref sig .tc := ⟨.hbm, 144, rfl⟩
abbrev main_call3_v18 : Ref sig .tc := ⟨.hbm, 145, rfl⟩
abbrev main_call3_c_6 : Ref sig .tc := ⟨.hbm, 146, rfl⟩
abbrev main_call3_v19 : Ref sig .tc := ⟨.hbm, 147, rfl⟩
abbrev main_call3_v20 : Ref sig .tc := ⟨.hbm, 148, rfl⟩
abbrev main_call3_c_7 : Ref sig .tc := ⟨.hbm, 149, rfl⟩
abbrev main_call3_v21 : Ref sig .tc := ⟨.hbm, 150, rfl⟩
abbrev main_call3_v22 : Ref sig .tc := ⟨.hbm, 151, rfl⟩
abbrev main_call3_c_8 : Ref sig .tc := ⟨.hbm, 152, rfl⟩
abbrev main_call3_c_9 : Ref sig .tc := ⟨.hbm, 153, rfl⟩
abbrev main_call3_v23 : Ref sig .tc := ⟨.hbm, 154, rfl⟩
abbrev main_call3_v24 : Ref sig .tc := ⟨.hbm, 155, rfl⟩
abbrev main_call3_v25 : Ref sig .tc := ⟨.hbm, 156, rfl⟩
abbrev main_call3_v26 : Ref sig .tc := ⟨.hbm, 157, rfl⟩
abbrev main_call3_v27 : Ref sig .tc := ⟨.hbm, 158, rfl⟩
abbrev main_call3_c_10 : Ref sig .tc := ⟨.hbm, 159, rfl⟩
abbrev main_call3_v28 : Ref sig .tc := ⟨.hbm, 160, rfl⟩
abbrev main_call3_v29 : Ref sig .tc := ⟨.hbm, 161, rfl⟩
abbrev main_call3_v30 : Ref sig .tc := ⟨.hbm, 162, rfl⟩
abbrev main_call3_c_11 : Ref sig .tc := ⟨.hbm, 163, rfl⟩
abbrev main_call3_v31 : Ref sig .tc := ⟨.hbm, 164, rfl⟩
abbrev main_call3_v32 : Ref sig .tc := ⟨.hbm, 165, rfl⟩
abbrev main_call3_v33 : Ref sig .tc := ⟨.hbm, 166, rfl⟩
abbrev main_call3_v34 : Ref sig .tc := ⟨.hbm, 167, rfl⟩
abbrev main_call3_c_12 : Ref sig .tc := ⟨.hbm, 168, rfl⟩
abbrev main_call3_v35 : Ref sig .tc := ⟨.hbm, 169, rfl⟩
abbrev main_call3_v36 : Ref sig .tc := ⟨.hbm, 170, rfl⟩
abbrev main_call3_c_13 : Ref sig .tc := ⟨.hbm, 171, rfl⟩
abbrev main_call3_v37 : Ref sig .tc := ⟨.hbm, 172, rfl⟩
abbrev main_call3_v38 : Ref sig .tc := ⟨.hbm, 173, rfl⟩
abbrev main_call3_v39 : Ref sig .tc := ⟨.hbm, 174, rfl⟩
abbrev main_call3_v40 : Ref sig .tc := ⟨.hbm, 175, rfl⟩
abbrev main_call3_v41 : Ref sig .tc := ⟨.hbm, 176, rfl⟩
abbrev main_call3_v42 : Ref sig .tc := ⟨.hbm, 177, rfl⟩
abbrev main_v8 : Ref sig .tc := ⟨.hbm, 178, rfl⟩
abbrev main_v9 : Ref sig .tc := ⟨.hbm, 179, rfl⟩
abbrev main_v10 : Ref sig .tc := ⟨.hbm, 180, rfl⟩
abbrev main_v11 : Ref sig .tc := ⟨.hbm, 181, rfl⟩
abbrev main_v12 : Ref sig .tc := ⟨.hbm, 182, rfl⟩
abbrev main_v13 : Ref sig .tc := ⟨.hbm, 183, rfl⟩
abbrev main_v14 : Ref sig .tc := ⟨.hbm, 184, rfl⟩

abbrev nD : Nat := 1
abbrev τ : Topo := Topo.v7x

variable {F : FTy → Type} [BitOps F]
-- ==== ScalesReference.lean ====
abbrev S3x16 : Shape := ⟨2, ![3, 16]⟩
abbrev S1x16 : Shape := ⟨2, ![1, 16]⟩
abbrev S16 : Shape := ⟨1, ![16]⟩
abbrev S_ : Shape := ⟨0, ![]⟩
abbrev S1 : Shape := ⟨1, ![1]⟩
abbrev S3 : Shape := ⟨1, ![3]⟩

abbrev nBuf : Space → Nat
  | .hbm => 411
  | .vmem => 0
  | .smem => 0
  | _ => 0

abbrev hbmTy0_0 (i : Nat) : BufTy := match i % 128 with
  | 0 => ⟨S3x16, .f32⟩
  | 1 => ⟨S1x16, .f32⟩
  | 2 => ⟨S16, .f32⟩
  | 3 => ⟨S_, .f32⟩
  | 4 => ⟨S_, .f32⟩
  | 5 => ⟨S_, .f32⟩
  | 6 => ⟨S_, .f32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .f32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .f32⟩
  | 41 => ⟨S_, .f32⟩
  | 42 => ⟨S_, .i1⟩
  | 43 => ⟨S_, .i32⟩
  | 44 => ⟨S_, .i32⟩
  | 45 => ⟨S_, .i32⟩
  | 46 => ⟨S_, .f32⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .f32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i1⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i1⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .f32⟩
  | 90 => ⟨S_, .i32⟩
  | 91 => ⟨S_, .f32⟩
  | 92 => ⟨S_, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .f32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i1⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i1⟩
  | _ => ⟨S3x16, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .f32⟩
  | 7 => ⟨S1x16, .f32⟩
  | 8 => ⟨S16, .f32⟩
  | 9 => ⟨S_, .f32⟩
  | 10 => ⟨S_, .f32⟩
  | 11 => ⟨S_, .f32⟩
  | 12 => ⟨S_, .f32⟩
  | 13 => ⟨S_, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .f32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i1⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S_, .f32⟩
  | 47 => ⟨S_, .f32⟩
  | 48 => ⟨S_, .i1⟩
  | 49 => ⟨S_, .i32⟩
  | 50 => ⟨S_, .i32⟩
  | 51 => ⟨S_, .i32⟩
  | 52 => ⟨S_, .f32⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .f32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i1⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i1⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .f32⟩
  | 96 => ⟨S_, .i32⟩
  | 97 => ⟨S_, .f32⟩
  | 98 => ⟨S_, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S_, .i32⟩
  | 106 => ⟨S_, .f32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i1⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S3x16, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i1⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .f32⟩
  | 13 => ⟨S1x16, .f32⟩
  | 14 => ⟨S16, .f32⟩
  | 15 => ⟨S_, .f32⟩
  | 16 => ⟨S_, .f32⟩
  | 17 => ⟨S_, .f32⟩
  | 18 => ⟨S_, .f32⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .f32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S_, .f32⟩
  | 53 => ⟨S_, .f32⟩
  | 54 => ⟨S_, .i1⟩
  | 55 => ⟨S_, .i32⟩
  | 56 => ⟨S_, .i32⟩
  | 57 => ⟨S_, .i32⟩
  | 58 => ⟨S_, .f32⟩
  | 59 => ⟨S_, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S_, .f32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i1⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i1⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .f32⟩
  | 102 => ⟨S_, .i32⟩
  | 103 => ⟨S_, .f32⟩
  | 104 => ⟨S_, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S_, .i32⟩
  | 112 => ⟨S_, .f32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i1⟩
  | 124 => ⟨S_, .i32⟩
  | 125 => ⟨S_, .i1⟩
  | 126 => ⟨S_, .i32⟩
  | 127 => ⟨S_, .i32⟩
  | _ => ⟨S3x16, .f32⟩

abbrev hbmTy0_3 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .f32⟩
  | 19 => ⟨S1, .f32⟩
  | 20 => ⟨S1, .f32⟩
  | 21 => ⟨S1, .f32⟩
  | 22 => ⟨S3, .f32⟩
  | 23 => ⟨S1, .f32⟩
  | 24 => ⟨S1, .f32⟩
  | 25 => ⟨S1, .f32⟩
  | 26 => ⟨S3, .f32⟩
  | _ => ⟨S3x16, .f32⟩

abbrev hbmTy (i : Nat) : BufTy := match i / 128 with
  | 0 => hbmTy0_0 i
  | 1 => hbmTy0_1 i
  | 2 => hbmTy0_2 i
  | 3 => hbmTy0_3 i
  | _ => ⟨S3x16, .f32⟩

abbrev bufTy : (tb : Table) → Fin (tcTables nBuf tb) → BufTy
  | .hbm, ⟨i, _⟩ => hbmTy i
  | _, _ => ⟨S3x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_c_1 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_c_3 : Ref sig .tc := ⟨.hbm, 19, rfl⟩
abbrev main_call0_v8 : Ref sig .tc := ⟨.hbm, 20, rfl⟩
abbrev main_call0_c_4 : Ref sig .tc := ⟨.hbm, 21, rfl⟩
abbrev main_call0_v9 : Ref sig .tc := ⟨.hbm, 22, rfl⟩
abbrev main_call0_c_5 : Ref sig .tc := ⟨.hbm, 23, rfl⟩
abbrev main_call0_v10 : Ref sig .tc := ⟨.hbm, 24, rfl⟩
abbrev main_call0_c_6 : Ref sig .tc := ⟨.hbm, 25, rfl⟩
abbrev main_call0_v11 : Ref sig .tc := ⟨.hbm, 26, rfl⟩
abbrev main_call0_c_7 : Ref sig .tc := ⟨.hbm, 27, rfl⟩
abbrev main_call0_v12 : Ref sig .tc := ⟨.hbm, 28, rfl⟩
abbrev main_call0_c_8 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_c_9 : Ref sig .tc := ⟨.hbm, 36, rfl⟩
abbrev main_call0_v19 : Ref sig .tc := ⟨.hbm, 37, rfl⟩
abbrev main_call0_c_10 : Ref sig .tc := ⟨.hbm, 38, rfl⟩
abbrev main_v4_1 : Ref sig .tc := ⟨.hbm, 39, rfl⟩
abbrev main_v4_0 : Ref sig .tc := ⟨.hbm, 40, rfl⟩
abbrev main_cst_1 : Ref sig .tc := ⟨.hbm, 41, rfl⟩
abbrev main_v5 : Ref sig .tc := ⟨.hbm, 42, rfl⟩
abbrev main_c : Ref sig .tc := ⟨.hbm, 43, rfl⟩
abbrev main_call1_v0 : Ref sig .tc := ⟨.hbm, 44, rfl⟩
abbrev main_v6 : Ref sig .tc := ⟨.hbm, 45, rfl⟩
abbrev main_cst_2 : Ref sig .tc := ⟨.hbm, 46, rfl⟩
abbrev main_call2_v0 : Ref sig .tc := ⟨.hbm, 47, rfl⟩
abbrev main_call2_c : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_c_1 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_c_2 : Ref sig .tc := ⟨.hbm, 57, rfl⟩
abbrev main_call2_v7 : Ref sig .tc := ⟨.hbm, 58, rfl⟩
abbrev main_call2_c_3 : Ref sig .tc := ⟨.hbm, 59, rfl⟩
abbrev main_call2_v8 : Ref sig .tc := ⟨.hbm, 60, rfl⟩
abbrev main_call2_c_4 : Ref sig .tc := ⟨.hbm, 61, rfl⟩
abbrev main_call2_v9 : Ref sig .tc := ⟨.hbm, 62, rfl⟩
abbrev main_call2_c_5 : Ref sig .tc := ⟨.hbm, 63, rfl⟩
abbrev main_call2_v10 : Ref sig .tc := ⟨.hbm, 64, rfl⟩
abbrev main_call2_c_6 : Ref sig .tc := ⟨.hbm, 65, rfl⟩
abbrev main_call2_v11 : Ref sig .tc := ⟨.hbm, 66, rfl⟩
abbrev main_call2_c_7 : Ref sig .tc := ⟨.hbm, 67, rfl⟩
abbrev main_call2_v12 : Ref sig .tc := ⟨.hbm, 68, rfl⟩
abbrev main_call2_c_8 : Ref sig .tc := ⟨.hbm, 69, rfl⟩
abbrev main_call2_c_9 : Ref sig .tc := ⟨.hbm, 70, rfl⟩
abbrev main_call2_v13 : Ref sig .tc := ⟨.hbm, 71, rfl⟩
abbrev main_call2_v14 : Ref sig .tc := ⟨.hbm, 72, rfl⟩
abbrev main_call2_v15 : Ref sig .tc := ⟨.hbm, 73, rfl⟩
abbrev main_call2_c_10 : Ref sig .tc := ⟨.hbm, 74, rfl⟩
abbrev main_call2_v16 : Ref sig .tc := ⟨.hbm, 75, rfl⟩
abbrev main_call2_v17 : Ref sig .tc := ⟨.hbm, 76, rfl⟩
abbrev main_call2_c_11 : Ref sig .tc := ⟨.hbm, 77, rfl⟩
abbrev main_call2_v18 : Ref sig .tc := ⟨.hbm, 78, rfl⟩
abbrev main_call2_v19 : Ref sig .tc := ⟨.hbm, 79, rfl⟩
abbrev main_call2_v20 : Ref sig .tc := ⟨.hbm, 80, rfl⟩
abbrev main_call2_c_12 : Ref sig .tc := ⟨.hbm, 81, rfl⟩
abbrev main_call2_v21 : Ref sig .tc := ⟨.hbm, 82, rfl⟩
abbrev main_call2_c_13 : Ref sig .tc := ⟨.hbm, 83, rfl⟩
abbrev main_call2_v22 : Ref sig .tc := ⟨.hbm, 84, rfl⟩
abbrev main_call2_v23 : Ref sig .tc := ⟨.hbm, 85, rfl⟩
abbrev main_call2_v24 : Ref sig .tc := ⟨.hbm, 86, rfl⟩
abbrev main_call2_v25 : Ref sig .tc := ⟨.hbm, 87, rfl⟩
abbrev main_call2_v26 : Ref sig .tc := ⟨.hbm, 88, rfl⟩
abbrev main_v7 : Ref sig .tc := ⟨.hbm, 89, rfl⟩
abbrev main_v8 : Ref sig .tc := ⟨.hbm, 90, rfl⟩
abbrev main_cst_3 : Ref sig .tc := ⟨.hbm, 91, rfl⟩
abbrev main_call3_v0 : Ref sig .tc := ⟨.hbm, 92, rfl⟩
abbrev main_call3_c : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_c_1 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_v6 : Ref sig .tc := ⟨.hbm, 101, rfl⟩
abbrev main_call3_c_2 : Ref sig .tc := ⟨.hbm, 102, rfl⟩
abbrev main_call3_v7 : Ref sig .tc := ⟨.hbm, 103, rfl⟩
abbrev main_call3_c_3 : Ref sig .tc := ⟨.hbm, 104, rfl⟩
abbrev main_call3_v8 : Ref sig .tc := ⟨.hbm, 105, rfl⟩
abbrev main_call3_c_4 : Ref sig .tc := ⟨.hbm, 106, rfl⟩
abbrev main_call3_v9 : Ref sig .tc := ⟨.hbm, 107, rfl⟩
abbrev main_call3_c_5 : Ref sig .tc := ⟨.hbm, 108, rfl⟩
abbrev main_call3_v10 : Ref sig .tc := ⟨.hbm, 109, rfl⟩
abbrev main_call3_c_6 : Ref sig .tc := ⟨.hbm, 110, rfl⟩
abbrev main_call3_v11 : Ref sig .tc := ⟨.hbm, 111, rfl⟩
abbrev main_call3_c_7 : Ref sig .tc := ⟨.hbm, 112, rfl⟩
abbrev main_call3_v12 : Ref sig .tc := ⟨.hbm, 113, rfl⟩
abbrev main_call3_c_8 : Ref sig .tc := ⟨.hbm, 114, rfl⟩
abbrev main_call3_c_9 : Ref sig .tc := ⟨.hbm, 115, rfl⟩
abbrev main_call3_v13 : Ref sig .tc := ⟨.hbm, 116, rfl⟩
abbrev main_call3_v14 : Ref sig .tc := ⟨.hbm, 117, rfl⟩
abbrev main_call3_v15 : Ref sig .tc := ⟨.hbm, 118, rfl⟩
abbrev main_call3_c_10 : Ref sig .tc := ⟨.hbm, 119, rfl⟩
abbrev main_call3_v16 : Ref sig .tc := ⟨.hbm, 120, rfl⟩
abbrev main_call3_v17 : Ref sig .tc := ⟨.hbm, 121, rfl⟩
abbrev main_call3_c_11 : Ref sig .tc := ⟨.hbm, 122, rfl⟩
abbrev main_call3_v18 : Ref sig .tc := ⟨.hbm, 123, rfl⟩
abbrev main_call3_v19 : Ref sig .tc := ⟨.hbm, 124, rfl⟩
abbrev main_call3_v20 : Ref sig .tc := ⟨.hbm, 125, rfl⟩
abbrev main_call3_c_12 : Ref sig .tc := ⟨.hbm, 126, rfl⟩
abbrev main_call3_v21 : Ref sig .tc := ⟨.hbm, 127, rfl⟩
abbrev main_call3_c_13 : Ref sig .tc := ⟨.hbm, 128, rfl⟩
abbrev main_call3_v22 : Ref sig .tc := ⟨.hbm, 129, rfl⟩
abbrev main_call3_v23 : Ref sig .tc := ⟨.hbm, 130, rfl⟩
abbrev main_call3_v24 : Ref sig .tc := ⟨.hbm, 131, rfl⟩
abbrev main_call3_v25 : Ref sig .tc := ⟨.hbm, 132, rfl⟩
abbrev main_call3_v26 : Ref sig .tc := ⟨.hbm, 133, rfl⟩
abbrev main_v9 : Ref sig .tc := ⟨.hbm, 134, rfl⟩
abbrev main_v10 : Ref sig .tc := ⟨.hbm, 135, rfl⟩
abbrev main_v11 : Ref sig .tc := ⟨.hbm, 136, rfl⟩
abbrev main_cst_4 : Ref sig .tc := ⟨.hbm, 137, rfl⟩
abbrev main_v12 : Ref sig .tc := ⟨.hbm, 138, rfl⟩
abbrev main_cst_5 : Ref sig .tc := ⟨.hbm, 139, rfl⟩
abbrev main_v13 : Ref sig .tc := ⟨.hbm, 140, rfl⟩
abbrev main_call4_v0 : Ref sig .tc := ⟨.hbm, 141, rfl⟩
abbrev main_call4_c : Ref sig .tc := ⟨.hbm, 142, rfl⟩
abbrev main_call4_v1 : Ref sig .tc := ⟨.hbm, 143, rfl⟩
abbrev main_call4_c_0 : Ref sig .tc := ⟨.hbm, 144, rfl⟩
abbrev main_call4_v2 : Ref sig .tc := ⟨.hbm, 145, rfl⟩
abbrev main_call4_c_1 : Ref sig .tc := ⟨.hbm, 146, rfl⟩
abbrev main_call4_v3 : Ref sig .tc := ⟨.hbm, 147, rfl⟩
abbrev main_call4_v4 : Ref sig .tc := ⟨.hbm, 148, rfl⟩
abbrev main_call4_v5 : Ref sig .tc := ⟨.hbm, 149, rfl⟩
abbrev main_call4_v6 : Ref sig .tc := ⟨.hbm, 150, rfl⟩
abbrev main_call4_c_2 : Ref sig .tc := ⟨.hbm, 151, rfl⟩
abbrev main_call4_v7 : Ref sig .tc := ⟨.hbm, 152, rfl⟩
abbrev main_call4_c_3 : Ref sig .tc := ⟨.hbm, 153, rfl⟩
abbrev main_call4_v8 : Ref sig .tc := ⟨.hbm, 154, rfl⟩
abbrev main_call4_c_4 : Ref sig .tc := ⟨.hbm, 155, rfl⟩
abbrev main_call4_v9 : Ref sig .tc := ⟨.hbm, 156, rfl⟩
abbrev main_call4_c_5 : Ref sig .tc := ⟨.hbm, 157, rfl⟩
abbrev main_call4_v10 : Ref sig .tc := ⟨.hbm, 158, rfl⟩
abbrev main_call4_c_6 : Ref sig .tc := ⟨.hbm, 159, rfl⟩
abbrev main_call4_v11 : Ref sig .tc := ⟨.hbm, 160, rfl⟩
abbrev main_call4_c_7 : Ref sig .tc := ⟨.hbm, 161, rfl⟩
abbrev main_call4_v12 : Ref sig .tc := ⟨.hbm, 162, rfl⟩
abbrev main_call4_c_8 : Ref sig .tc := ⟨.hbm, 163, rfl⟩
abbrev main_call4_v13 : Ref sig .tc := ⟨.hbm, 164, rfl⟩
abbrev main_call4_v14 : Ref sig .tc := ⟨.hbm, 165, rfl⟩
abbrev main_call4_v15 : Ref sig .tc := ⟨.hbm, 166, rfl⟩
abbrev main_call4_v16 : Ref sig .tc := ⟨.hbm, 167, rfl⟩
abbrev main_call4_v17 : Ref sig .tc := ⟨.hbm, 168, rfl⟩
abbrev main_call4_v18 : Ref sig .tc := ⟨.hbm, 169, rfl⟩
abbrev main_call4_c_9 : Ref sig .tc := ⟨.hbm, 170, rfl⟩
abbrev main_call4_v19 : Ref sig .tc := ⟨.hbm, 171, rfl⟩
abbrev main_call4_c_10 : Ref sig .tc := ⟨.hbm, 172, rfl⟩
abbrev main_v14_1 : Ref sig .tc := ⟨.hbm, 173, rfl⟩
abbrev main_v14_0 : Ref sig .tc := ⟨.hbm, 174, rfl⟩
abbrev main_cst_6 : Ref sig .tc := ⟨.hbm, 175, rfl⟩
abbrev main_v15 : Ref sig .tc := ⟨.hbm, 176, rfl⟩
abbrev main_c_7 : Ref sig .tc := ⟨.hbm, 177, rfl⟩
abbrev main_call5_v0 : Ref sig .tc := ⟨.hbm, 178, rfl⟩
abbrev main_v16 : Ref sig .tc := ⟨.hbm, 179, rfl⟩
abbrev main_cst_8 : Ref sig .tc := ⟨.hbm, 180, rfl⟩
abbrev main_call6_v0 : Ref sig .tc := ⟨.hbm, 181, rfl⟩
abbrev main_call6_c : Ref sig .tc := ⟨.hbm, 182, rfl⟩
abbrev main_call6_v1 : Ref sig .tc := ⟨.hbm, 183, rfl⟩
abbrev main_call6_c_0 : Ref sig .tc := ⟨.hbm, 184, rfl⟩
abbrev main_call6_v2 : Ref sig .tc := ⟨.hbm, 185, rfl⟩
abbrev main_call6_c_1 : Ref sig .tc := ⟨.hbm, 186, rfl⟩
abbrev main_call6_v3 : Ref sig .tc := ⟨.hbm, 187, rfl⟩
abbrev main_call6_v4 : Ref sig .tc := ⟨.hbm, 188, rfl⟩
abbrev main_call6_v5 : Ref sig .tc := ⟨.hbm, 189, rfl⟩
abbrev main_call6_v6 : Ref sig .tc := ⟨.hbm, 190, rfl⟩
abbrev main_call6_c_2 : Ref sig .tc := ⟨.hbm, 191, rfl⟩
abbrev main_call6_v7 : Ref sig .tc := ⟨.hbm, 192, rfl⟩
abbrev main_call6_c_3 : Ref sig .tc := ⟨.hbm, 193, rfl⟩
abbrev main_call6_v8 : Ref sig .tc := ⟨.hbm, 194, rfl⟩
abbrev main_call6_c_4 : Ref sig .tc := ⟨.hbm, 195, rfl⟩
abbrev main_call6_v9 : Ref sig .tc := ⟨.hbm, 196, rfl⟩
abbrev main_call6_c_5 : Ref sig .tc := ⟨.hbm, 197, rfl⟩
abbrev main_call6_v10 : Ref sig .tc := ⟨.hbm, 198, rfl⟩
abbrev main_call6_c_6 : Ref sig .tc := ⟨.hbm, 199, rfl⟩
abbrev main_call6_v11 : Ref sig .tc := ⟨.hbm, 200, rfl⟩
abbrev main_call6_c_7 : Ref sig .tc := ⟨.hbm, 201, rfl⟩
abbrev main_call6_v12 : Ref sig .tc := ⟨.hbm, 202, rfl⟩
abbrev main_call6_c_8 : Ref sig .tc := ⟨.hbm, 203, rfl⟩
abbrev main_call6_c_9 : Ref sig .tc := ⟨.hbm, 204, rfl⟩
abbrev main_call6_v13 : Ref sig .tc := ⟨.hbm, 205, rfl⟩
abbrev main_call6_v14 : Ref sig .tc := ⟨.hbm, 206, rfl⟩
abbrev main_call6_v15 : Ref sig .tc := ⟨.hbm, 207, rfl⟩
abbrev main_call6_c_10 : Ref sig .tc := ⟨.hbm, 208, rfl⟩
abbrev main_call6_v16 : Ref sig .tc := ⟨.hbm, 209, rfl⟩
abbrev main_call6_v17 : Ref sig .tc := ⟨.hbm, 210, rfl⟩
abbrev main_call6_c_11 : Ref sig .tc := ⟨.hbm, 211, rfl⟩
abbrev main_call6_v18 : Ref sig .tc := ⟨.hbm, 212, rfl⟩
abbrev main_call6_v19 : Ref sig .tc := ⟨.hbm, 213, rfl⟩
abbrev main_call6_v20 : Ref sig .tc := ⟨.hbm, 214, rfl⟩
abbrev main_call6_c_12 : Ref sig .tc := ⟨.hbm, 215, rfl⟩
abbrev main_call6_v21 : Ref sig .tc := ⟨.hbm, 216, rfl⟩
abbrev main_call6_c_13 : Ref sig .tc := ⟨.hbm, 217, rfl⟩
abbrev main_call6_v22 : Ref sig .tc := ⟨.hbm, 218, rfl⟩
abbrev main_call6_v23 : Ref sig .tc := ⟨.hbm, 219, rfl⟩
abbrev main_call6_v24 : Ref sig .tc := ⟨.hbm, 220, rfl⟩
abbrev main_call6_v25 : Ref sig .tc := ⟨.hbm, 221, rfl⟩
abbrev main_call6_v26 : Ref sig .tc := ⟨.hbm, 222, rfl⟩
abbrev main_v17 : Ref sig .tc := ⟨.hbm, 223, rfl⟩
abbrev main_v18 : Ref sig .tc := ⟨.hbm, 224, rfl⟩
abbrev main_cst_9 : Ref sig .tc := ⟨.hbm, 225, rfl⟩
abbrev main_call7_v0 : Ref sig .tc := ⟨.hbm, 226, rfl⟩
abbrev main_call7_c : Ref sig .tc := ⟨.hbm, 227, rfl⟩
abbrev main_call7_v1 : Ref sig .tc := ⟨.hbm, 228, rfl⟩
abbrev main_call7_c_0 : Ref sig .tc := ⟨.hbm, 229, rfl⟩
abbrev main_call7_v2 : Ref sig .tc := ⟨.hbm, 230, rfl⟩
abbrev main_call7_c_1 : Ref sig .tc := ⟨.hbm, 231, rfl⟩
abbrev main_call7_v3 : Ref sig .tc := ⟨.hbm, 232, rfl⟩
abbrev main_call7_v4 : Ref sig .tc := ⟨.hbm, 233, rfl⟩
abbrev main_call7_v5 : Ref sig .tc := ⟨.hbm, 234, rfl⟩
abbrev main_call7_v6 : Ref sig .tc := ⟨.hbm, 235, rfl⟩
abbrev main_call7_c_2 : Ref sig .tc := ⟨.hbm, 236, rfl⟩
abbrev main_call7_v7 : Ref sig .tc := ⟨.hbm, 237, rfl⟩
abbrev main_call7_c_3 : Ref sig .tc := ⟨.hbm, 238, rfl⟩
abbrev main_call7_v8 : Ref sig .tc := ⟨.hbm, 239, rfl⟩
abbrev main_call7_c_4 : Ref sig .tc := ⟨.hbm, 240, rfl⟩
abbrev main_call7_v9 : Ref sig .tc := ⟨.hbm, 241, rfl⟩
abbrev main_call7_c_5 : Ref sig .tc := ⟨.hbm, 242, rfl⟩
abbrev main_call7_v10 : Ref sig .tc := ⟨.hbm, 243, rfl⟩
abbrev main_call7_c_6 : Ref sig .tc := ⟨.hbm, 244, rfl⟩
abbrev main_call7_v11 : Ref sig .tc := ⟨.hbm, 245, rfl⟩
abbrev main_call7_c_7 : Ref sig .tc := ⟨.hbm, 246, rfl⟩
abbrev main_call7_v12 : Ref sig .tc := ⟨.hbm, 247, rfl⟩
abbrev main_call7_c_8 : Ref sig .tc := ⟨.hbm, 248, rfl⟩
abbrev main_call7_c_9 : Ref sig .tc := ⟨.hbm, 249, rfl⟩
abbrev main_call7_v13 : Ref sig .tc := ⟨.hbm, 250, rfl⟩
abbrev main_call7_v14 : Ref sig .tc := ⟨.hbm, 251, rfl⟩
abbrev main_call7_v15 : Ref sig .tc := ⟨.hbm, 252, rfl⟩
abbrev main_call7_c_10 : Ref sig .tc := ⟨.hbm, 253, rfl⟩
abbrev main_call7_v16 : Ref sig .tc := ⟨.hbm, 254, rfl⟩
abbrev main_call7_v17 : Ref sig .tc := ⟨.hbm, 255, rfl⟩
abbrev main_call7_c_11 : Ref sig .tc := ⟨.hbm, 256, rfl⟩
abbrev main_call7_v18 : Ref sig .tc := ⟨.hbm, 257, rfl⟩
abbrev main_call7_v19 : Ref sig .tc := ⟨.hbm, 258, rfl⟩
abbrev main_call7_v20 : Ref sig .tc := ⟨.hbm, 259, rfl⟩
abbrev main_call7_c_12 : Ref sig .tc := ⟨.hbm, 260, rfl⟩
abbrev main_call7_v21 : Ref sig .tc := ⟨.hbm, 261, rfl⟩
abbrev main_call7_c_13 : Ref sig .tc := ⟨.hbm, 262, rfl⟩
abbrev main_call7_v22 : Ref sig .tc := ⟨.hbm, 263, rfl⟩
abbrev main_call7_v23 : Ref sig .tc := ⟨.hbm, 264, rfl⟩
abbrev main_call7_v24 : Ref sig .tc := ⟨.hbm, 265, rfl⟩
abbrev main_call7_v25 : Ref sig .tc := ⟨.hbm, 266, rfl⟩
abbrev main_call7_v26 : Ref sig .tc := ⟨.hbm, 267, rfl⟩
abbrev main_v19 : Ref sig .tc := ⟨.hbm, 268, rfl⟩
abbrev main_v20 : Ref sig .tc := ⟨.hbm, 269, rfl⟩
abbrev main_v21 : Ref sig .tc := ⟨.hbm, 270, rfl⟩
abbrev main_cst_10 : Ref sig .tc := ⟨.hbm, 271, rfl⟩
abbrev main_v22 : Ref sig .tc := ⟨.hbm, 272, rfl⟩
abbrev main_cst_11 : Ref sig .tc := ⟨.hbm, 273, rfl⟩
abbrev main_v23 : Ref sig .tc := ⟨.hbm, 274, rfl⟩
abbrev main_call8_v0 : Ref sig .tc := ⟨.hbm, 275, rfl⟩
abbrev main_call8_c : Ref sig .tc := ⟨.hbm, 276, rfl⟩
abbrev main_call8_v1 : Ref sig .tc := ⟨.hbm, 277, rfl⟩
abbrev main_call8_c_0 : Ref sig .tc := ⟨.hbm, 278, rfl⟩
abbrev main_call8_v2 : Ref sig .tc := ⟨.hbm, 279, rfl⟩
abbrev main_call8_c_1 : Ref sig .tc := ⟨.hbm, 280, rfl⟩
abbrev main_call8_v3 : Ref sig .tc := ⟨.hbm, 281, rfl⟩
abbrev main_call8_v4 : Ref sig .tc := ⟨.hbm, 282, rfl⟩
abbrev main_call8_v5 : Ref sig .tc := ⟨.hbm, 283, rfl⟩
abbrev main_call8_v6 : Ref sig .tc := ⟨.hbm, 284, rfl⟩
abbrev main_call8_c_2 : Ref sig .tc := ⟨.hbm, 285, rfl⟩
abbrev main_call8_v7 : Ref sig .tc := ⟨.hbm, 286, rfl⟩
abbrev main_call8_c_3 : Ref sig .tc := ⟨.hbm, 287, rfl⟩
abbrev main_call8_v8 : Ref sig .tc := ⟨.hbm, 288, rfl⟩
abbrev main_call8_c_4 : Ref sig .tc := ⟨.hbm, 289, rfl⟩
abbrev main_call8_v9 : Ref sig .tc := ⟨.hbm, 290, rfl⟩
abbrev main_call8_c_5 : Ref sig .tc := ⟨.hbm, 291, rfl⟩
abbrev main_call8_v10 : Ref sig .tc := ⟨.hbm, 292, rfl⟩
abbrev main_call8_c_6 : Ref sig .tc := ⟨.hbm, 293, rfl⟩
abbrev main_call8_v11 : Ref sig .tc := ⟨.hbm, 294, rfl⟩
abbrev main_call8_c_7 : Ref sig .tc := ⟨.hbm, 295, rfl⟩
abbrev main_call8_v12 : Ref sig .tc := ⟨.hbm, 296, rfl⟩
abbrev main_call8_c_8 : Ref sig .tc := ⟨.hbm, 297, rfl⟩
abbrev main_call8_v13 : Ref sig .tc := ⟨.hbm, 298, rfl⟩
abbrev main_call8_v14 : Ref sig .tc := ⟨.hbm, 299, rfl⟩
abbrev main_call8_v15 : Ref sig .tc := ⟨.hbm, 300, rfl⟩
abbrev main_call8_v16 : Ref sig .tc := ⟨.hbm, 301, rfl⟩
abbrev main_call8_v17 : Ref sig .tc := ⟨.hbm, 302, rfl⟩
abbrev main_call8_v18 : Ref sig .tc := ⟨.hbm, 303, rfl⟩
abbrev main_call8_c_9 : Ref sig .tc := ⟨.hbm, 304, rfl⟩
abbrev main_call8_v19 : Ref sig .tc := ⟨.hbm, 305, rfl⟩
abbrev main_call8_c_10 : Ref sig .tc := ⟨.hbm, 306, rfl⟩
abbrev main_v24_1 : Ref sig .tc := ⟨.hbm, 307, rfl⟩
abbrev main_v24_0 : Ref sig .tc := ⟨.hbm, 308, rfl⟩
abbrev main_cst_12 : Ref sig .tc := ⟨.hbm, 309, rfl⟩
abbrev main_v25 : Ref sig .tc := ⟨.hbm, 310, rfl⟩
abbrev main_c_13 : Ref sig .tc := ⟨.hbm, 311, rfl⟩
abbrev main_call9_v0 : Ref sig .tc := ⟨.hbm, 312, rfl⟩
abbrev main_v26 : Ref sig .tc := ⟨.hbm, 313, rfl⟩
abbrev main_cst_14 : Ref sig .tc := ⟨.hbm, 314, rfl⟩
abbrev main_call10_v0 : Ref sig .tc := ⟨.hbm, 315, rfl⟩
abbrev main_call10_c : Ref sig .tc := ⟨.hbm, 316, rfl⟩
abbrev main_call10_v1 : Ref sig .tc := ⟨.hbm, 317, rfl⟩
abbrev main_call10_c_0 : Ref sig .tc := ⟨.hbm, 318, rfl⟩
abbrev main_call10_v2 : Ref sig .tc := ⟨.hbm, 319, rfl⟩
abbrev main_call10_c_1 : Ref sig .tc := ⟨.hbm, 320, rfl⟩
abbrev main_call10_v3 : Ref sig .tc := ⟨.hbm, 321, rfl⟩
abbrev main_call10_v4 : Ref sig .tc := ⟨.hbm, 322, rfl⟩
abbrev main_call10_v5 : Ref sig .tc := ⟨.hbm, 323, rfl⟩
abbrev main_call10_v6 : Ref sig .tc := ⟨.hbm, 324, rfl⟩
abbrev main_call10_c_2 : Ref sig .tc := ⟨.hbm, 325, rfl⟩
abbrev main_call10_v7 : Ref sig .tc := ⟨.hbm, 326, rfl⟩
abbrev main_call10_c_3 : Ref sig .tc := ⟨.hbm, 327, rfl⟩
abbrev main_call10_v8 : Ref sig .tc := ⟨.hbm, 328, rfl⟩
abbrev main_call10_c_4 : Ref sig .tc := ⟨.hbm, 329, rfl⟩
abbrev main_call10_v9 : Ref sig .tc := ⟨.hbm, 330, rfl⟩
abbrev main_call10_c_5 : Ref sig .tc := ⟨.hbm, 331, rfl⟩
abbrev main_call10_v10 : Ref sig .tc := ⟨.hbm, 332, rfl⟩
abbrev main_call10_c_6 : Ref sig .tc := ⟨.hbm, 333, rfl⟩
abbrev main_call10_v11 : Ref sig .tc := ⟨.hbm, 334, rfl⟩
abbrev main_call10_c_7 : Ref sig .tc := ⟨.hbm, 335, rfl⟩
abbrev main_call10_v12 : Ref sig .tc := ⟨.hbm, 336, rfl⟩
abbrev main_call10_c_8 : Ref sig .tc := ⟨.hbm, 337, rfl⟩
abbrev main_call10_c_9 : Ref sig .tc := ⟨.hbm, 338, rfl⟩
abbrev main_call10_v13 : Ref sig .tc := ⟨.hbm, 339, rfl⟩
abbrev main_call10_v14 : Ref sig .tc := ⟨.hbm, 340, rfl⟩
abbrev main_call10_v15 : Ref sig .tc := ⟨.hbm, 341, rfl⟩
abbrev main_call10_c_10 : Ref sig .tc := ⟨.hbm, 342, rfl⟩
abbrev main_call10_v16 : Ref sig .tc := ⟨.hbm, 343, rfl⟩
abbrev main_call10_v17 : Ref sig .tc := ⟨.hbm, 344, rfl⟩
abbrev main_call10_c_11 : Ref sig .tc := ⟨.hbm, 345, rfl⟩
abbrev main_call10_v18 : Ref sig .tc := ⟨.hbm, 346, rfl⟩
abbrev main_call10_v19 : Ref sig .tc := ⟨.hbm, 347, rfl⟩
abbrev main_call10_v20 : Ref sig .tc := ⟨.hbm, 348, rfl⟩
abbrev main_call10_c_12 : Ref sig .tc := ⟨.hbm, 349, rfl⟩
abbrev main_call10_v21 : Ref sig .tc := ⟨.hbm, 350, rfl⟩
abbrev main_call10_c_13 : Ref sig .tc := ⟨.hbm, 351, rfl⟩
abbrev main_call10_v22 : Ref sig .tc := ⟨.hbm, 352, rfl⟩
abbrev main_call10_v23 : Ref sig .tc := ⟨.hbm, 353, rfl⟩
abbrev main_call10_v24 : Ref sig .tc := ⟨.hbm, 354, rfl⟩
abbrev main_call10_v25 : Ref sig .tc := ⟨.hbm, 355, rfl⟩
abbrev main_call10_v26 : Ref sig .tc := ⟨.hbm, 356, rfl⟩
abbrev main_v27 : Ref sig .tc := ⟨.hbm, 357, rfl⟩
abbrev main_v28 : Ref sig .tc := ⟨.hbm, 358, rfl⟩
abbrev main_cst_15 : Ref sig .tc := ⟨.hbm, 359, rfl⟩
abbrev main_call11_v0 : Ref sig .tc := ⟨.hbm, 360, rfl⟩
abbrev main_call11_c : Ref sig .tc := ⟨.hbm, 361, rfl⟩
abbrev main_call11_v1 : Ref sig .tc := ⟨.hbm, 362, rfl⟩
abbrev main_call11_c_0 : Ref sig .tc := ⟨.hbm, 363, rfl⟩
abbrev main_call11_v2 : Ref sig .tc := ⟨.hbm, 364, rfl⟩
abbrev main_call11_c_1 : Ref sig .tc := ⟨.hbm, 365, rfl⟩
abbrev main_call11_v3 : Ref sig .tc := ⟨.hbm, 366, rfl⟩
abbrev main_call11_v4 : Ref sig .tc := ⟨.hbm, 367, rfl⟩
abbrev main_call11_v5 : Ref sig .tc := ⟨.hbm, 368, rfl⟩
abbrev main_call11_v6 : Ref sig .tc := ⟨.hbm, 369, rfl⟩
abbrev main_call11_c_2 : Ref sig .tc := ⟨.hbm, 370, rfl⟩
abbrev main_call11_v7 : Ref sig .tc := ⟨.hbm, 371, rfl⟩
abbrev main_call11_c_3 : Ref sig .tc := ⟨.hbm, 372, rfl⟩
abbrev main_call11_v8 : Ref sig .tc := ⟨.hbm, 373, rfl⟩
abbrev main_call11_c_4 : Ref sig .tc := ⟨.hbm, 374, rfl⟩
abbrev main_call11_v9 : Ref sig .tc := ⟨.hbm, 375, rfl⟩
abbrev main_call11_c_5 : Ref sig .tc := ⟨.hbm, 376, rfl⟩
abbrev main_call11_v10 : Ref sig .tc := ⟨.hbm, 377, rfl⟩
abbrev main_call11_c_6 : Ref sig .tc := ⟨.hbm, 378, rfl⟩
abbrev main_call11_v11 : Ref sig .tc := ⟨.hbm, 379, rfl⟩
abbrev main_call11_c_7 : Ref sig .tc := ⟨.hbm, 380, rfl⟩
abbrev main_call11_v12 : Ref sig .tc := ⟨.hbm, 381, rfl⟩
abbrev main_call11_c_8 : Ref sig .tc := ⟨.hbm, 382, rfl⟩
abbrev main_call11_c_9 : Ref sig .tc := ⟨.hbm, 383, rfl⟩
abbrev main_call11_v13 : Ref sig .tc := ⟨.hbm, 384, rfl⟩
abbrev main_call11_v14 : Ref sig .tc := ⟨.hbm, 385, rfl⟩
abbrev main_call11_v15 : Ref sig .tc := ⟨.hbm, 386, rfl⟩
abbrev main_call11_c_10 : Ref sig .tc := ⟨.hbm, 387, rfl⟩
abbrev main_call11_v16 : Ref sig .tc := ⟨.hbm, 388, rfl⟩
abbrev main_call11_v17 : Ref sig .tc := ⟨.hbm, 389, rfl⟩
abbrev main_call11_c_11 : Ref sig .tc := ⟨.hbm, 390, rfl⟩
abbrev main_call11_v18 : Ref sig .tc := ⟨.hbm, 391, rfl⟩
abbrev main_call11_v19 : Ref sig .tc := ⟨.hbm, 392, rfl⟩
abbrev main_call11_v20 : Ref sig .tc := ⟨.hbm, 393, rfl⟩
abbrev main_call11_c_12 : Ref sig .tc := ⟨.hbm, 394, rfl⟩
abbrev main_call11_v21 : Ref sig .tc := ⟨.hbm, 395, rfl⟩
abbrev main_call11_c_13 : Ref sig .tc := ⟨.hbm, 396, rfl⟩
abbrev main_call11_v22 : Ref sig .tc := ⟨.hbm, 397, rfl⟩
abbrev main_call11_v23 : Ref sig .tc := ⟨.hbm, 398, rfl⟩
abbrev main_call11_v24 : Ref sig .tc := ⟨.hbm, 399, rfl⟩
abbrev main_call11_v25 : Ref sig .tc := ⟨.hbm, 400, rfl⟩
abbrev main_call11_v26 : Ref sig .tc := ⟨.hbm, 401, rfl⟩
abbrev main_v29 : Ref sig .tc := ⟨.hbm, 402, rfl⟩
abbrev main_v30 : Ref sig .tc := ⟨.hbm, 403, rfl⟩
abbrev main_v31 : Ref sig .tc := ⟨.hbm, 404, rfl⟩
abbrev main_v32 : Ref sig .tc := ⟨.hbm, 405, rfl⟩
abbrev main_v33 : Ref sig .tc := ⟨.hbm, 406, rfl⟩
abbrev main_v34 : Ref sig .tc := ⟨.hbm, 407, rfl⟩
abbrev main_v35 : Ref sig .tc := ⟨.hbm, 408, rfl⟩
abbrev main_v36 : Ref sig .tc := ⟨.hbm, 409, rfl⟩
abbrev main_v37 : Ref sig .tc := ⟨.hbm, 410, rfl⟩

abbrev nD : Nat := 1
abbrev τ : Topo := Topo.v7x

variable {F : FTy → Type} [BitOps F]
-- ==== Proof.KSpec.lean ====
/-
  The step's mathematics over the extended reals, entry by entry: the quantisers with their clips, the
  RMS norm of a row, and the largest absolute value. Both programs are read to these.
-/
module

public import Idealize.ShloMosaic.Lib.Pointwise

@[expose] public section

noncomputable section

namespace Cert.Spec

open Idealize.ShloMosaic

/-- A scaled value clipped to ±448, the range of the e4m3 codes. -/
abbrev clip448 (z : EReal) : EReal :=
  min (Ideal.ofBits FTy.f32 1138753536#32) (max (Ideal.ofBits FTy.f32 3286237184#32) z)

/-- A scaled value clipped to ±57344, the range of the e5m2 codes. -/
abbrev clip57344 (z : EReal) : EReal :=
  min (Ideal.ofBits FTy.f32 1197473792#32) (max (Ideal.ofBits FTy.f32 3344957440#32) z)

/-- Entry `k` of the RMS norm of the row `x` with the gains `g`: `x k` over the root of the row's mean
    square plus epsilon, times the gain. -/
abbrev rms (x g : Fin 6400 → EReal) (k : Fin 6400) : EReal :=
  x k * Ideal.rsqrt (Ideal.div (∑ l, x l * x l) (Ideal.ofBits FTy.f32 1170735104#32) + Ideal.ofBits FTy.f32 897988541#32) * g k

/-- `a` is the largest of the absolute values of the family `f`, and at least zero: exactly the upper
    bounds of `0` and of every `|f i|` lie above it. -/
def IsAmax {ι : Type} (f : ι → EReal) (a : EReal) : Prop :=
  ∀ b, a ≤ b ↔ 0 ≤ b ∧ ∀ i, max (f i) (-(f i)) ≤ b

/-- The largest absolute value of a family is one number. -/
theorem IsAmax.unique {ι : Type} {f : ι → EReal} {a a' : EReal} (h : IsAmax f a) (h' : IsAmax f a') : a = a' :=
  eq_of_forall_ge_iff fun b => (h b).trans (h' b).symm

/-- The largest absolute value does not change when the family is listed again, with or without repetition. -/
theorem IsAmax.comp {ι κ : Type} {f : ι → EReal} {g : κ → EReal} {a : EReal} (h : IsAmax f a)
    (hfg : ∀ i, ∃ k, f i = g k) (hgf : ∀ k, ∃ i, g k = f i) : IsAmax g a := fun b => by
  rw [h b]
  refine and_congr_right fun _ => ⟨fun H k => ?_, fun H i => ?_⟩
  · obtain ⟨i, e⟩ := hgf k; rw [e]; exact H i
  · obtain ⟨k, e⟩ := hfg i; rw [e]; exact H k

/-- The maximum reduction starts from minus infinity. -/
theorem ofBits_neg_inf : Ideal.ofBits FTy.f32 4286578688#32 = ⊥ := by simp [Ideal.ofBits, Ideal.ieee]

/-- A maximum over a family, started from minus infinity, is below `b` exactly when the family is. -/
theorem fold_max_le_iff {ι : Type} [Fintype ι] (f : ι → EReal) (b : EReal) :
    Finset.fold max (Ideal.ofBits FTy.f32 4286578688#32) f Finset.univ ≤ b ↔ ∀ i, f i ≤ b := by
  rw [Finset.fold_max_le, ofBits_neg_inf]
  simp

/-- A running maximum: reset at point 0 to the largest of `0` and the point's family, and at each later
    point raised by that point's family. After point `n` its upper bounds are those of `0` and of every
    family seen so far. -/
theorem running_max {N J : ℕ} {ι : Type} (f : (n : ℕ) → n < N → EReal) (g : Fin N → ι → EReal) (hJ : N ≤ J)
    (hA : ∀ t : Fin N, t.val % J = 0 → ∀ b, f t.val t.isLt ≤ b ↔ 0 ≤ b ∧ ∀ i, max (g t i) (-(g t i)) ≤ b)
    (hB : ∀ t : Fin N, ¬t.val % J = 0 → ∀ b, f t.val t.isLt ≤ b ↔
      f (t.val - 1) (Nat.lt_of_le_of_lt (Nat.sub_le _ _) t.isLt) ≤ b ∧ ∀ i, max (g t i) (-(g t i)) ≤ b) :
    ∀ (n : ℕ) (h : n < N) (b : EReal), f n h ≤ b ↔
      0 ≤ b ∧ ∀ t : Fin N, t.val ≤ n → ∀ i, max (g t i) (-(g t i)) ≤ b
  | 0, h, b => by
    rw [hA ⟨0, h⟩ (Nat.zero_mod _) b]
    refine and_congr_right fun _ => ⟨fun H t ht i => ?_, fun H i => H ⟨0, h⟩ le_rfl i⟩
    obtain rfl : t = ⟨0, h⟩ := Fin.ext (Nat.le_zero.mp ht)
    exact H i
  | n + 1, h, b => by
    have hne : ¬(⟨n + 1, h⟩ : Fin N).val % J = 0 := by
      rw [Nat.mod_eq_of_lt (lt_of_lt_of_le h hJ)]; exact Nat.succ_ne_zero n
    rw [hB ⟨n + 1, h⟩ hne b]
    show f n _ ≤ b ∧ _ ↔ _
    rw [running_max f g hJ hA hB n (Nat.lt_of_succ_lt h) b, and_assoc]
    refine and_congr_right fun _ => ⟨fun H t ht i => ?_, fun H => ⟨fun t ht i => H t (Nat.le_succ_of_le ht) i, fun i => H ⟨n + 1, h⟩ le_rfl i⟩⟩
    rcases Nat.lt_or_ge t.val (n + 1) with hl | hg
    · exact H.1 t (Nat.le_of_lt_succ hl) i
    · obtain rfl : t = ⟨n + 1, h⟩ := Fin.ext (le_antisymm ht hg)
      exact H.2 i

/-- At the last point the running maximum is the largest absolute value of all the families together. -/
theorem isAmax_of_running {N J : ℕ} {ι κ : Type} (f : (n : ℕ) → n < N → EReal) (g : Fin N → ι → EReal) (hJ : N ≤ J)
    (hA : ∀ t : Fin N, t.val % J = 0 → ∀ b, f t.val t.isLt ≤ b ↔ 0 ≤ b ∧ ∀ i, max (g t i) (-(g t i)) ≤ b)
    (hB : ∀ t : Fin N, ¬t.val % J = 0 → ∀ b, f t.val t.isLt ≤ b ↔
      f (t.val - 1) (Nat.lt_of_le_of_lt (Nat.sub_le _ _) t.isLt) ≤ b ∧ ∀ i, max (g t i) (-(g t i)) ≤ b)
    (t : Fin N) (ht : t.val + 1 = N) (G : κ → EReal) (hgG : ∀ t i, ∃ k, g t i = G k) (hGg : ∀ k, ∃ t i, G k = g t i) :
    IsAmax G (f t.val t.isLt) := fun b => by
  rw [running_max f g hJ hA hB t.val t.isLt b]
  refine and_congr_right fun _ => ⟨fun H k => ?_, fun H s _ i => ?_⟩
  · obtain ⟨s, i, e⟩ := hGg k; rw [e]; exact H s (by have := s.isLt; omega) i
  · obtain ⟨k, e⟩ := hgG s i; rw [e]; exact H k

end Cert.Spec

end
-- ==== Proof.KReg0.lean ====
/-
  The first call of the kernel (the weight's quantiser), read from its blocks to its whole results: the
  codes of the weight and the weight's largest absolute value.
-/
module

public import proofs.«01_k».proof.Proof.KSpec
public import proofs.«01_k».proof.Proof.Gen.KernelIdeal.Frame.Region0
public import Idealize.ShloMosaic.Lib.Pipeline.ValueKit.Point

@[expose] public section

set_option maxRecDepth 16384

noncomputable section

namespace Cert.KernelIdeal.KV

open Cert.KernelIdeal Cert.KernelIdeal.Gen Cert.Spec
open Idealize.ShloMosaic Idealize.ShloMosaic.TcCoe Idealize.ShloMosaic.Tactic
open Idealize.SL.Sem
open Idealize.ShloMosaic.Pipeline (Dat)

-- the contents of the buffers when the call begins
variable (V : (c : Dev nD) → (b : Ref sig .tc) → Buf (Elt Ideal) ((c : Thread nD τ).loc b))

/-- The codes of the weight: each entry times the inverse scale, clipped. -/
abbrev wcodes (inv : Vec Ideal S3 .f32) (w : Vec Ideal S6400x3712 .bf16) : Vec Ideal S6400x3712 .fp8e4m3 :=
  fun i => clip448 (w i * inv (ix1 1))

/-- The inverse scales are read whole at every point. -/
theorem idx0_0 : ∀ t : Fin cfg0.N, win0_0.index t = ![0] := (by decide +kernel : ∀ t : Fin grid0.N, _)
/-- Point `t` reads the weight's `t`-th block of 320 rows. -/
theorem idx0_1 : ∀ t : Fin cfg0.N, win0_1.index t = ![t.val, 0] := (by decide +kernel : ∀ t : Fin grid0.N, _)
/-- Point `t` writes the codes' `t`-th block of 320 rows. -/
theorem idx0_2 : ∀ t : Fin cfg0.N, win0_2.index t = ![t.val, 0] := (by decide +kernel : ∀ t : Fin grid0.N, _)

/-- The first call leaves the weight's codes in its first result. -/
theorem codes0 (c : Dev nD) : (dat0 V c).arrAt 2 cfg0.N = wcodes (V c main_arg6) (V c main_arg2) := by
  refine (dat0 V c).arrAt_eq_of_covers 2 _ (by decide +kernel) fun t hf y => ?_
  blk_simp
  rw [after0_2]
  by_cases h : t.val % 20 = 0
  · rw [outsAt0_A V c t h]; frame_out
    pointwise [k0_pay1, wcodes, clip448]
    blk_point [iblk0, idx0_0 t, idx0_1 t, idx0_2 t]
  · rw [outsAt0_B V c t h]; frame_out
    pointwise [k0_pay1, wcodes, clip448]
    blk_point [iblk0, idx0_0 t, idx0_1 t, idx0_2 t]

/-- Raising the running maximum by a block: its upper bounds are those of the old maximum and of the
    block's absolute values. -/
theorem pay3_le_0 (x : Vec Ideal S320x3712 .bf16) (acc : Vec Ideal S8x128 .f32) (i : S8x128.Idx) (b : EReal) :
    k0_pay3 x acc i ≤ b ↔ acc i ≤ b ∧ ∀ p : Fin 320 × Fin 3712, max (x (ix2 p.1 p.2)) (-(x (ix2 p.1 p.2))) ≤ b := by
  pointwise [k0_pay3]
  rw [max_le_iff, fold_max_le_iff]
  rfl

/-- The first call leaves the weight's largest absolute value in every entry of its second result. -/
theorem amax0 (c : Dev nD) (i) : IsAmax (fun p : Fin 6400 × Fin 3712 => V c main_arg2 (ix2 p.1 p.2)) ((dat0 V c).arrAt 3 cfg0.N i) := by
  revert i
  refine (dat0 V c).arrAt_forall_of_covers 3 (fun _ v => IsAmax (fun p : Fin 6400 × Fin 3712 => V c main_arg2 (ix2 p.1 p.2)) v) (by decide +kernel) ?_
  intro t hf y
  blk_simp
  rw [after0_3]
  refine isAmax_of_running (J := 20) (fun n h => (outsAt0 V c n h).2 y) (fun t (p : Fin 320 × Fin 3712) => iblk0 V c 1 t (ix2 p.1 p.2)) (le_of_eq N_0) ?_ ?_ t ?_ _ ?_ ?_
  · intro t h b
    rw [outsAt0_A V c t h]; frame_out
    rw [pay3_le_0]
    pointwise [k0_pay2]
  · intro t h b
    rw [outsAt0_B V c t h]; frame_out
    rw [pay3_le_0]
  · have h1 := (flush0_3 t).mp hf
    have h2 := t.isLt
    have h3 : cfg0.N = 20 := N_0
    show t.val + 1 = cfg0.N
    change t.val < cfg0.N at h2
    omega
  · intro t p
    have h2 : t.val < 20 := lt_of_lt_of_eq t.isLt N_0
    refine ⟨(⟨320 * t.val + p.1.val, by have := p.1.isLt; omega⟩, p.2), ?_⟩
    blk_ext! [iblk0, idx0_1 t]
  · intro p
    have h2 := p.1.isLt
    refine ⟨⟨p.1.val / 320, lt_of_lt_of_eq (b := 20) (by omega) N_0.symm⟩, (⟨p.1.val % 320, by omega⟩, p.2), ?_⟩
    blk_ext! [iblk0, idx0_1 _]
end Cert.KernelIdeal.KV

end
-- ==== Proof.KReg1.lean ====
/-
  The second call of the kernel (the forward pass), read from its blocks to its whole results: the codes
  of the normed activations, their scaled product with the weight's codes, and the largest absolute value.
-/
module

public import proofs.«01_k».proof.Proof.KSpec
public import proofs.«01_k».proof.Proof.Gen.KernelIdeal.Frame.Region1
public import Idealize.ShloMosaic.Lib.Pipeline.ValueKit.Point

@[expose] public section

set_option maxRecDepth 16384

noncomputable section

namespace Cert.KernelIdeal.KV

open Cert.KernelIdeal Cert.KernelIdeal.Gen Cert.Spec
open Idealize.ShloMosaic Idealize.ShloMosaic.TcCoe Idealize.ShloMosaic.Tactic
open Idealize.SL.Sem
open Idealize.ShloMosaic.Pipeline (Dat)

-- the contents of the buffers when the call begins
variable (V : (c : Dev nD) → (b : Ref sig .tc) → Buf (Elt Ideal) ((c : Thread nD τ).loc b))

/-- The normed activations, row by row. -/
abbrev hrows (x : Vec Ideal S24576x6400 .bf16) (g : Vec Ideal S1x6400 .bf16) (r : Fin 24576) (k : Fin 6400) : EReal :=
  rms (fun l => x (ix2 r l)) (fun l => g (ix2 0 l)) k

/-- The codes of the normed activations. -/
abbrev xcodes (inv : Vec Ideal S3 .f32) (x : Vec Ideal S24576x6400 .bf16) (g : Vec Ideal S1x6400 .bf16) :
    Vec Ideal S24576x6400 .fp8e4m3 :=
  fun i => clip448 (hrows x g (i 0) (i 1) * inv (ix1 0))

/-- The forward product of the codes, scaled back. -/
abbrev yout (sc : Vec Ideal S3 .f32) (xc : Vec Ideal S24576x6400 .fp8e4m3) (w : Vec Ideal S6400x3712 .fp8e4m3) :
    Vec Ideal S24576x3712 .bf16 :=
  fun i => (∑ k : Fin 6400, xc (ix2 (i 0) k) * w (ix2 k (i 1))) * (sc (ix1 0) * sc (ix1 1))

/-- The scales are read whole at every point. -/
theorem idx1_0 : ∀ t : Fin cfg1.N, win1_0.index t = ![0] := (by decide +kernel : ∀ t : Fin grid1.N, _)
/-- The inverse scales are read whole at every point. -/
theorem idx1_1 : ∀ t : Fin cfg1.N, win1_1.index t = ![0] := (by decide +kernel : ∀ t : Fin grid1.N, _)
/-- Point `t` reads the activations' `t`-th block of 256 rows. -/
theorem idx1_2 : ∀ t : Fin cfg1.N, win1_2.index t = ![t.val, 0] := (by decide +kernel : ∀ t : Fin grid1.N, _)
/-- The gains are read whole at every point. -/
theorem idx1_3 : ∀ t : Fin cfg1.N, win1_3.index t = ![0, 0] := (by decide +kernel : ∀ t : Fin grid1.N, _)
/-- The weight's codes are read whole at every point. -/
theorem idx1_4 : ∀ t : Fin cfg1.N, win1_4.index t = ![0, 0] := (by decide +kernel : ∀ t : Fin grid1.N, _)
/-- Point `t` writes the product's `t`-th block of 256 rows. -/
theorem idx1_5 : ∀ t : Fin cfg1.N, win1_5.index t = ![t.val, 0] := (by decide +kernel : ∀ t : Fin grid1.N, _)
/-- Point `t` writes the codes' `t`-th block of 256 rows. -/
theorem idx1_6 : ∀ t : Fin cfg1.N, win1_6.index t = ![t.val, 0] := (by decide +kernel : ∀ t : Fin grid1.N, _)

/-- The second call leaves the codes of the normed activations in its second result. -/
theorem codes1 (c : Dev nD) : (dat1 V c).arrAt 6 cfg1.N = xcodes (V c main_arg6) (V c main_v0) (V c main_v2) := by
  refine (dat1 V c).arrAt_eq_of_covers 6 _ (by decide +kernel) fun t hf y => ?_
  blk_simp
  rw [after1_6]
  by_cases h : t.val % 96 = 0
  · rw [outsAt1_A V c t h]; frame_out
    pointwise [k1_pay4, k1_pay3, xcodes, hrows, rms, clip448]
    blk_point [iblk1, idx1_1 t, idx1_2 t, idx1_3 t, idx1_6 t]
  · rw [outsAt1_B V c t h]; frame_out
    pointwise [k1_pay4, k1_pay3, xcodes, hrows, rms, clip448]
    blk_point [iblk1, idx1_1 t, idx1_2 t, idx1_3 t, idx1_6 t]

/-- The second call leaves the scaled product of the two arrays of codes in its first result. -/
theorem y1 (c : Dev nD) : (dat1 V c).arrAt 5 cfg1.N =
    yout (V c main_arg5) (xcodes (V c main_arg6) (V c main_v0) (V c main_v2)) (V c main_v3_0) := by
  refine (dat1 V c).arrAt_eq_of_covers 5 _ (by decide +kernel) fun t hf y => ?_
  blk_simp
  rw [after1_5]
  by_cases h : t.val % 96 = 0
  · rw [outsAt1_A V c t h]; frame_out
    pointwise [k1_pay2, k1_pay4, k1_pay3, yout, xcodes, hrows, rms, clip448]
    blk_point [iblk1, idx1_0 t, idx1_1 t, idx1_2 t, idx1_3 t, idx1_4 t, idx1_5 t]
  · rw [outsAt1_B V c t h]; frame_out
    pointwise [k1_pay2, k1_pay4, k1_pay3, yout, xcodes, hrows, rms, clip448]
    blk_point [iblk1, idx1_0 t, idx1_1 t, idx1_2 t, idx1_3 t, idx1_4 t, idx1_5 t]

/-- Raising the running maximum by a block of rows: its upper bounds are those of the old maximum and of
    the absolute values of the block's normed rows. -/
theorem pay1_le_1 (x : Vec Ideal S256x6400 .bf16) (g : Vec Ideal S1x6400 .bf16) (acc : Vec Ideal S8x128 .f32) (i : S8x128.Idx) (b : EReal) :
    k1_pay1 (k1_pay6 acc) (k1_pay7 x g) i ≤ b ↔ acc i ≤ b ∧ ∀ p : Fin 256 × Fin 6400,
      max (rms (fun l => x (ix2 p.1 l)) (fun l => g (ix2 0 l)) p.2) (-(rms (fun l => x (ix2 p.1 l)) (fun l => g (ix2 0 l)) p.2)) ≤ b := by
  pointwise [k1_pay1, k1_pay6, k1_pay7, k1_pay3]
  rw [max_le_iff, fold_max_le_iff]
  rfl

/-- The second call leaves the largest absolute value of the normed activations in every entry of its
    third result. -/
theorem amax1 (c : Dev nD) (i) : IsAmax (fun p : Fin 24576 × Fin 6400 => hrows (V c main_v0) (V c main_v2) p.1 p.2) ((dat1 V c).arrAt 7 cfg1.N i) := by
  revert i
  refine (dat1 V c).arrAt_forall_of_covers 7 (fun _ v => IsAmax (fun p : Fin 24576 × Fin 6400 => hrows (V c main_v0) (V c main_v2) p.1 p.2) v) (by decide +kernel) ?_
  intro t hf y
  blk_simp
  rw [after1_7]
  refine isAmax_of_running (J := 96) (fun n h => (outsAt1 V c n h).2.2 y) (fun t (p : Fin 256 × Fin 6400) =>
    rms (fun l => iblk1 V c 2 t (ix2 p.1 l)) (fun l => iblk1 V c 3 t (ix2 0 l)) p.2) (le_of_eq N_1) ?_ ?_ t ?_ _ ?_ ?_
  · intro t h b
    rw [outsAt1_A V c t h]; frame_out
    rw [pay1_le_1]
    pointwise [k1_pay5]
  · intro t h b
    rw [outsAt1_B V c t h]; frame_out
    rw [pay1_le_1]
  · have h1 := (flush1_7 t).mp hf
    have h2 := t.isLt
    have h3 : cfg1.N = 96 := N_1
    show t.val + 1 = cfg1.N
    change t.val < cfg1.N at h2
    omega
  · intro t p
    have h2 : t.val < 96 := lt_of_lt_of_eq t.isLt N_1
    refine ⟨(⟨256 * t.val + p.1.val, by have := p.1.isLt; omega⟩, p.2), ?_⟩
    dsimp only [hrows, rms]
    blk_point [iblk1, idx1_2 t, idx1_3 t]
  · intro p
    have h2 := p.1.isLt
    refine ⟨⟨p.1.val / 256, lt_of_lt_of_eq (b := 96) (by omega) N_1.symm⟩, (⟨p.1.val % 256, by omega⟩, p.2), ?_⟩
    dsimp only [hrows, rms]
    blk_point [iblk1, idx1_2 _, idx1_3 _]
end Cert.KernelIdeal.KV

end
-- ==== Proof.KReg2.lean ====
/-
  The third call of the kernel (the gradient of the activations), read from its blocks to its whole
  results: the codes of the gradient, their scaled product with the weight's codes, and the largest
  absolute value.
-/
module

public import proofs.«01_k».proof.Proof.KSpec
public import proofs.«01_k».proof.Proof.Gen.KernelIdeal.Frame.Region2
public import Idealize.ShloMosaic.Lib.Pipeline.ValueKit.Point

@[expose] public section

set_option maxRecDepth 16384

noncomputable section

namespace Cert.KernelIdeal.KV

open Cert.KernelIdeal Cert.KernelIdeal.Gen Cert.Spec
open Idealize.ShloMosaic Idealize.ShloMosaic.TcCoe Idealize.ShloMosaic.Tactic
open Idealize.SL.Sem
open Idealize.ShloMosaic.Pipeline (Dat)

-- the contents of the buffers when the call begins
variable (V : (c : Dev nD) → (b : Ref sig .tc) → Buf (Elt Ideal) ((c : Thread nD τ).loc b))

/-- The codes of the output gradient: each entry times the inverse scale, clipped. -/
abbrev dycodes (inv : Vec Ideal S3 .f32) (dy : Vec Ideal S24576x3712 .bf16) : Vec Ideal S24576x3712 .fp8e5m2 :=
  fun i => clip57344 (dy i * inv (ix1 2))

/-- The backward product of the gradient's codes and the weight's codes, scaled back. -/
abbrev dxout (sc : Vec Ideal S3 .f32) (dyc : Vec Ideal S24576x3712 .fp8e5m2) (w : Vec Ideal S6400x3712 .fp8e4m3) :
    Vec Ideal S24576x6400 .bf16 :=
  fun i => (∑ n : Fin 3712, dyc (ix2 (i 0) n) * w (ix2 (i 1) n)) * (sc (ix1 2) * sc (ix1 1))

/-- The scales are read whole at every point. -/
theorem idx2_0 : ∀ t : Fin cfg2.N, win2_0.index t = ![0] := (by decide +kernel : ∀ t : Fin grid2.N, _)
/-- The inverse scales are read whole at every point. -/
theorem idx2_1 : ∀ t : Fin cfg2.N, win2_1.index t = ![0] := (by decide +kernel : ∀ t : Fin grid2.N, _)
/-- Point `t` reads the gradient's `t`-th block of 256 rows. -/
theorem idx2_2 : ∀ t : Fin cfg2.N, win2_2.index t = ![t.val, 0] := (by decide +kernel : ∀ t : Fin grid2.N, _)
/-- The weight's codes are read whole at every point. -/
theorem idx2_3 : ∀ t : Fin cfg2.N, win2_3.index t = ![0, 0] := (by decide +kernel : ∀ t : Fin grid2.N, _)
/-- Point `t` writes the product's `t`-th block of 256 rows. -/
theorem idx2_4 : ∀ t : Fin cfg2.N, win2_4.index t = ![t.val, 0] := (by decide +kernel : ∀ t : Fin grid2.N, _)
/-- Point `t` writes the codes' `t`-th block of 256 rows. -/
theorem idx2_5 : ∀ t : Fin cfg2.N, win2_5.index t = ![t.val, 0] := (by decide +kernel : ∀ t : Fin grid2.N, _)

/-- The third call leaves the codes of the gradient in its second result. -/
theorem codes2 (c : Dev nD) : (dat2 V c).arrAt 5 cfg2.N = dycodes (V c main_arg6) (V c main_v1) := by
  refine (dat2 V c).arrAt_eq_of_covers 5 _ (by decide +kernel) fun t hf y => ?_
  blk_simp
  rw [after2_5]
  by_cases h : t.val % 96 = 0
  · rw [outsAt2_A V c t h]; frame_out
    pointwise [k2_pay3, k2_pay2, dycodes, clip57344]
    blk_point [iblk2, idx2_1 t, idx2_2 t, idx2_5 t]
  · rw [outsAt2_B V c t h]; frame_out
    pointwise [k2_pay3, k2_pay2, dycodes, clip57344]
    blk_point [iblk2, idx2_1 t, idx2_2 t, idx2_5 t]

/-- The third call leaves the scaled product of the two arrays of codes in its first result. -/
theorem dx2 (c : Dev nD) : (dat2 V c).arrAt 4 cfg2.N =
    dxout (V c main_arg5) (dycodes (V c main_arg6) (V c main_v1)) (V c main_v3_0) := by
  refine (dat2 V c).arrAt_eq_of_covers 4 _ (by decide +kernel) fun t hf y => ?_
  blk_simp
  rw [after2_4]
  by_cases h : t.val % 96 = 0
  · rw [outsAt2_A V c t h]; frame_out
    pointwise [k2_pay1, k2_pay6, k2_pay7, k2_pay3, k2_pay2, dxout, dycodes, clip57344]
    blk_point [iblk2, idx2_0 t, idx2_1 t, idx2_2 t, idx2_3 t, idx2_4 t]
  · rw [outsAt2_B V c t h]; frame_out
    pointwise [k2_pay1, k2_pay6, k2_pay7, k2_pay3, k2_pay2, dxout, dycodes, clip57344]
    blk_point [iblk2, idx2_0 t, idx2_1 t, idx2_2 t, idx2_3 t, idx2_4 t]

/-- Raising the running maximum by a block of rows: its upper bounds are those of the old maximum and of
    the block's absolute values. -/
theorem pay5_le_2 (x : Vec Ideal S256x3712 .bf16) (acc : Vec Ideal S8x128 .f32) (i : S8x128.Idx) (b : EReal) :
    k2_pay5 x acc i ≤ b ↔ acc i ≤ b ∧ ∀ p : Fin 256 × Fin 3712, max (x (ix2 p.1 p.2)) (-(x (ix2 p.1 p.2))) ≤ b := by
  pointwise [k2_pay5, k2_pay2]
  rw [max_le_iff, fold_max_le_iff]
  rfl

/-- The third call leaves the gradient's largest absolute value in every entry of its third result. -/
theorem amax2 (c : Dev nD) (i) : IsAmax (fun p : Fin 24576 × Fin 3712 => V c main_v1 (ix2 p.1 p.2)) ((dat2 V c).arrAt 6 cfg2.N i) := by
  revert i
  refine (dat2 V c).arrAt_forall_of_covers 6 (fun _ v => IsAmax (fun p : Fin 24576 × Fin 3712 => V c main_v1 (ix2 p.1 p.2)) v) (by decide +kernel) ?_
  intro t hf y
  blk_simp
  rw [after2_6]
  refine isAmax_of_running (J := 96) (fun n h => (outsAt2 V c n h).2.2 y) (fun t (p : Fin 256 × Fin 3712) => iblk2 V c 2 t (ix2 p.1 p.2)) (le_of_eq N_2) ?_ ?_ t ?_ _ ?_ ?_
  · intro t h b
    rw [outsAt2_A V c t h]; frame_out
    rw [pay5_le_2]
    pointwise [k2_pay4]
  · intro t h b
    rw [outsAt2_B V c t h]; frame_out
    rw [pay5_le_2]
  · have h1 := (flush2_6 t).mp hf
    have h2 := t.isLt
    have h3 : cfg2.N = 96 := N_2
    show t.val + 1 = cfg2.N
    change t.val < cfg2.N at h2
    omega
  · intro t p
    have h2 : t.val < 96 := lt_of_lt_of_eq t.isLt N_2
    refine ⟨(⟨256 * t.val + p.1.val, by have := p.1.isLt; omega⟩, p.2), ?_⟩
    blk_ext! [iblk2, idx2_2 t]
  · intro p
    have h2 := p.1.isLt
    refine ⟨⟨p.1.val / 256, lt_of_lt_of_eq (b := 96) (by omega) N_2.symm⟩, (⟨p.1.val % 256, by omega⟩, p.2), ?_⟩
    blk_ext! [iblk2, idx2_2 _]

end Cert.KernelIdeal.KV

end
-- ==== Proof.KReg3.lean ====
/-
  The fourth call of the kernel (the weight's gradient), read from its blocks to its whole result: the
  product of the two arrays of codes over all rows, accumulated over 24 blocks of rows.
-/
module

public import proofs.«01_k».proof.Proof.KSpec
public import proofs.«01_k».proof.Proof.Gen.KernelIdeal.Frame.Region3
public import Idealize.ShloMosaic.Lib.Pipeline.ValueKit.Point

@[expose] public section

set_option maxRecDepth 16384

noncomputable section

namespace Cert.KernelIdeal.KV

open Cert.KernelIdeal Cert.KernelIdeal.Gen Cert.Spec
open Idealize.ShloMosaic Idealize.ShloMosaic.TcCoe Idealize.ShloMosaic.Tactic
open Idealize.SL.Sem
open Idealize.ShloMosaic.Pipeline (Dat)

-- the contents of the buffers when the call begins
variable (V : (c : Dev nD) → (b : Ref sig .tc) → Buf (Elt Ideal) ((c : Thread nD τ).loc b))

/-- The weight's gradient: the codes' product over all rows, scaled back. -/
abbrev dwout (sc : Vec Ideal S3 .f32) (xc : Vec Ideal S24576x6400 .fp8e4m3) (dyc : Vec Ideal S24576x3712 .fp8e5m2) :
    Vec Ideal S6400x3712 .f32 :=
  fun i => (∑ r : Fin 24576, xc (ix2 r (i 0)) * dyc (ix2 r (i 1))) * (sc (ix1 0) * sc (ix1 2))

/-- The scales are read whole at every point. -/
theorem idx3_0 : ∀ t : Fin cfg3.N, win3_0.index t = ![0] := (by decide +kernel : ∀ t : Fin grid3.N, _)
/-- Point `t` reads block (t mod 24, t div 24) of the activations' codes. -/
theorem idx3_1 : ∀ t : Fin cfg3.N, win3_1.index t = ![t.val % 24, t.val / 24] := (by decide +kernel : ∀ t : Fin grid3.N, _)
/-- Point `t` reads the `t mod 24`-th block of 1024 rows of the gradient's codes. -/
theorem idx3_2 : ∀ t : Fin cfg3.N, win3_2.index t = ![t.val % 24, 0] := (by decide +kernel : ∀ t : Fin grid3.N, _)
/-- Point `t` works on the `t div 24`-th block of 640 rows of the result. -/
theorem idx3_3 : ∀ t : Fin cfg3.N, win3_3.index t = ![t.val / 24, 0] := (by decide +kernel : ∀ t : Fin grid3.N, _)

/-- Row `l` of the `s`-th block of 1024 rows. -/
abbrev rowOf (s : ℕ) (l : Fin 1024) : Fin 24576 := ⟨(1024 * s + l.val) % 24576, Nat.mod_lt _ (by decide)⟩

/-- Column `a` of the `q`-th block of 640 columns. -/
abbrev colOf (q : ℕ) (a : Fin 640) : Fin 6400 := ⟨(640 * q + a.val) % 6400, Nat.mod_lt _ (by decide)⟩

/-- The part of the product that block `s` of the rows contributes to entry (a, b) of block `q`. -/
abbrev part (xc : Vec Ideal S24576x6400 .fp8e4m3) (dyc : Vec Ideal S24576x3712 .fp8e5m2) (q s : ℕ) (j : S640x3712.Idx) : EReal :=
  ∑ l : Fin 1024, xc (ix2 (rowOf s l) (colOf q (j 0))) * dyc (ix2 (rowOf s l) (j 1))

/-- One accumulation: the block of codes at point `t` adds its part. -/
theorem pay2_3 (c : Dev nD) (t : Fin cfg3.N) (acc : Vec Ideal S640x3712 .f32) (j : S640x3712.Idx) :
    k3_pay2 acc (iblk3 V c 1 t) (iblk3 V c 2 t) j = acc j + part (V c main_v4_1) (V c main_v5_1) (t.val / 24) (t.val % 24) j := by
  have h2 : t.val < 240 := lt_of_lt_of_eq t.isLt N_3
  pointwise [k3_pay2, part]
  blk_point [iblk3, idx3_1 t, idx3_2 t]

/-- Before the last block of rows, the accumulator holds the sum of the parts so far. -/
theorem partial3 (c : Dev nD) (q : ℕ) (j : S640x3712.Idx) : ∀ (k : ℕ) (_ : k < 23) (h : 24 * q + k < cfg3.N),
    outsAt3 V c (24 * q + k) h j = ∑ s ∈ Finset.range (k + 1), part (V c main_v4_1) (V c main_v5_1) q s j
  | 0, _, h => by
    have e := outsAt3_A V c ⟨24 * q + 0, h⟩ (by dsimp only; omega) (by dsimp only; omega)
    dsimp only at e
    rw [e]; frame_out
    rw [pay2_3]
    dsimp only
    rw [show (24 * q + 0) / 24 = q by omega, show (24 * q + 0) % 24 = 0 by omega]
    pointwise [k3_pay1]
    simp
  | k + 1, hk, h => by
    have e := outsAt3_B V c ⟨24 * q + (k + 1), h⟩ (by dsimp only; omega) (by dsimp only; omega)
    dsimp only at e
    rw [e]; frame_out
    rw [pay2_3]
    dsimp only
    rw [show (24 * q + (k + 1)) / 24 = q by omega, show (24 * q + (k + 1)) % 24 = k + 1 by omega]
    rw [Finset.sum_range_succ, ← partial3 c q j k (by omega) (by omega)]
    rfl

/-- The parts of all 24 blocks of rows together are the product over all rows. -/
theorem sum_parts (xc : Vec Ideal S24576x6400 .fp8e4m3) (dyc : Vec Ideal S24576x3712 .fp8e5m2) (q : ℕ) (j : S640x3712.Idx) :
    ∑ s ∈ Finset.range 24, part xc dyc q s j = ∑ r : Fin 24576, xc (ix2 r (colOf q (j 0))) * dyc (ix2 r (j 1)) := by
  rw [Finset.sum_range]
  refine Fin.sum_mul_add_congr fun s l hl => ?_
  have e : rowOf s.val l = ⟨s.val * 1024 + l.val, hl⟩ := Fin.ext (by
    show (1024 * s.val + l.val) % 24576 = s.val * 1024 + l.val
    have := s.isLt; have := l.isLt; omega)
  rw [e]

/-- The fourth call leaves the weight's gradient in its result. -/
theorem dw3 (c : Dev nD) : (dat3 V c).arrAt 3 cfg3.N = dwout (V c main_arg5) (V c main_v4_1) (V c main_v5_1) := by
  refine (dat3 V c).arrAt_eq_of_covers 3 _ (by decide +kernel) fun t hf y => ?_
  have h2 : t.val < 240 := lt_of_lt_of_eq t.isLt N_3
  have h1 := (flush3_3 t).mp hf
  blk_simp
  rw [after3_3, outsAt3_C V c t (by omega) h1]; frame_out
  have e : outsAt3 V c (t.val - 1) (Nat.lt_of_le_of_lt (Nat.sub_le _ _) t.isLt) y
      = ∑ s ∈ Finset.range 23, part (V c main_v4_1) (V c main_v5_1) (t.val / 24) s y := by
    rw [← partial3 V c (t.val / 24) y 22 (by omega) (lt_of_lt_of_eq (b := 240) (by omega) N_3.symm)]
    congr 1
    omega
  pointwise [k3_pay3]
  rw [pay2_3, e, h1, ← Finset.sum_range_succ (fun s => part (V c main_v4_1) (V c main_v5_1) (t.val / 24) s y) 23, sum_parts]
  pointwise [dwout]
  blk_point [iblk3, idx3_0 t, idx3_3 t]

end Cert.KernelIdeal.KV

end
-- ==== Proof.KHist.lean ====
/-
  The results, entry by entry, as functions of the arguments, and the two facts about a history of
  scales that both programs need: how a history made of one new column and fifteen old ones reads at an
  index, and that the maximum reduction of the absolute values of an array is the largest of them.
-/
module

public import proofs.«01_k».proof.Proof.KSpec
public import Idealize.ShloMosaic.Lib.Pipeline.Value
public import Idealize.ShloMosaic.Lib.Pipeline.ValueKit.Point

@[expose] public section

set_option maxRecDepth 16384

noncomputable section

namespace Cert.Spec

open Idealize.ShloMosaic Idealize.ShloMosaic.TcCoe Idealize.ShloMosaic.Tactic
open Idealize.SL.Sem
open Idealize.ShloMosaic.Pipeline (Dat)

/-- Arrays of extended reals, by extents. -/
abbrev A1 (n : ℕ) := (⟨1, ![n]⟩ : Shape).Idx → EReal
abbrev A2 (n m : ℕ) := (⟨2, ![n, m]⟩ : Shape).Idx → EReal
abbrev A3 (n m k : ℕ) := (⟨3, ![n, m, k]⟩ : Shape).Idx → EReal

/-- Entry `k` of the normalised row `(b, s)`. -/
abbrev hAt (x : A3 6 4096 6400) (g : A1 6400) (b : Fin 6) (s : Fin 4096) (k : Fin 6400) : EReal :=
  rms (fun l => x (ix3 b s l)) (fun l => g (ix1 l)) k

/-- The code of the normalised entry: scaled by the first inverse scale and clipped to ±448. -/
abbrev xqAt (inv : A1 3) (x : A3 6 4096 6400) (g : A1 6400) (b : Fin 6) (s : Fin 4096) (k : Fin 6400) : EReal :=
  clip448 (hAt x g b s k * inv (ix1 0))

/-- The code of a weight: scaled by the second inverse scale and clipped to ±448. -/
abbrev wqAt (inv : A1 3) (w : A2 6400 3712) (k : Fin 6400) (n : Fin 3712) : EReal :=
  clip448 (w (ix2 k n) * inv (ix1 1))

/-- The code of an entry of the incoming gradient: scaled by the third inverse scale and clipped to ±57344. -/
abbrev gqAt (inv : A1 3) (dy : A3 6 4096 3712) (b : Fin 6) (s : Fin 4096) (n : Fin 3712) : EReal :=
  clip57344 (dy (ix3 b s n) * inv (ix1 2))

/-- The forward product: the row of codes times the column of weight codes, times the two scales. -/
abbrev yAt (sc inv : A1 3) (x : A3 6 4096 6400) (g : A1 6400) (w : A2 6400 3712) (b : Fin 6) (s : Fin 4096) (n : Fin 3712) : EReal :=
  (∑ k : Fin 6400, xqAt inv x g b s k * wqAt inv w k n) * (sc (ix1 0) * sc (ix1 1))

/-- The gradient in the input: the row of gradient codes times the row of weight codes, times the two scales. -/
abbrev dxAt (sc inv : A1 3) (w : A2 6400 3712) (dy : A3 6 4096 3712) (b : Fin 6) (s : Fin 4096) (k : Fin 6400) : EReal :=
  (∑ n : Fin 3712, gqAt inv dy b s n * wqAt inv w k n) * (sc (ix1 2) * sc (ix1 1))

/-- The gradient in the weight: summed over batch and sequence, times the two scales. -/
abbrev dwAt (sc inv : A1 3) (x : A3 6 4096 6400) (g : A1 6400) (dy : A3 6 4096 3712) (k : Fin 6400) (n : Fin 3712) : EReal :=
  (∑ b : Fin 6, ∑ s : Fin 4096, xqAt inv x g b s k * gqAt inv dy b s n) * (sc (ix1 0) * sc (ix1 2))

/-- The new history: its first column holds the largest absolute values of the normalised activations, of the
    weight and of the incoming gradient; the other columns are the first fifteen of the old one. -/
structure IsHist (x : A3 6 4096 6400) (g : A1 6400) (w : A2 6400 3712) (dy : A3 6 4096 3712) (old new : A2 3 16) : Prop where
  act : IsAmax (fun p : Fin 6 × Fin 4096 × Fin 6400 => hAt x g p.1 p.2.1 p.2.2) (new (ix2 0 0))
  wt : IsAmax (fun p : Fin 6400 × Fin 3712 => w (ix2 p.1 p.2)) (new (ix2 1 0))
  grad : IsAmax (fun p : Fin 6 × Fin 4096 × Fin 3712 => dy (ix3 p.1 p.2.1 p.2.2)) (new (ix2 2 0))
  rest : ∀ (r : Fin 3) (l : Fin 15), new (ix2 r l.succ) = old (ix2 r l.castSucc)

/-- These conditions determine the history. -/
theorem IsHist.unique {x : A3 6 4096 6400} {g : A1 6400} {w : A2 6400 3712} {dy : A3 6 4096 3712} {old new new' : A2 3 16}
    (h : IsHist x g w dy old new) (h' : IsHist x g w dy old new') : new = new' := by
  funext i
  rw [eq_ix2 i]
  generalize (i 0 : Fin 3) = r
  generalize (i 1 : Fin 16) = l
  refine Fin.cases ?_ (fun l => ?_) l
  · fin_cases r
    · exact h.act.unique h'.act
    · exact h.wt.unique h'.wt
    · exact h.grad.unique h'.grad
  · exact (h.rest r l).trans (h'.rest r l).symm

/-- One column set before fifteen: the first column. -/
theorem first_col (A : A2 3 1) (B : A2 3 15)
    (h : Shape.Concatenates [⟨2, ![3, 1]⟩, ⟨2, ![3, 15]⟩] ⟨2, ![3, 16]⟩ 1) (r : Fin 3) :
    concatenate (⟨2, ![3, 16]⟩ : Shape) 1 [⟨⟨2, ![3, 1]⟩, A⟩, ⟨⟨2, ![3, 15]⟩, B⟩] h (ix2 r 0) = A (ix2 r 0) :=
  concatenate_pair_apply_left 1 A B h (ix2 r 0) rfl (ix2 r 0) fun b => by fin_cases b <;> rfl

/-- One column set before fifteen: the later columns. -/
theorem later_col (A : A2 3 1) (B : A2 3 15)
    (h : Shape.Concatenates [⟨2, ![3, 1]⟩, ⟨2, ![3, 15]⟩] ⟨2, ![3, 16]⟩ 1) (r : Fin 3) (l : Fin 15) :
    concatenate (⟨2, ![3, 16]⟩ : Shape) 1 [⟨⟨2, ![3, 1]⟩, A⟩, ⟨⟨2, ![3, 15]⟩, B⟩] h (ix2 r l.succ) = B (ix2 r l) :=
  concatenate_pair_apply_right 1 A B h (ix2 r l.succ) rfl rfl (ix2 r l)
    (fun b => by fin_cases b <;> first | (intro _; rfl) | (intro hb; exact absurd rfl hb)) rfl

/-- Three single entries set in a row, read at each place. -/
theorem three_at (x y z : A1 1) (h : Shape.Concatenates [⟨1, ![1]⟩, ⟨1, ![1]⟩, ⟨1, ![1]⟩] ⟨1, ![3]⟩ 0) (r : Fin 3) :
    concatenate (⟨1, ![3]⟩ : Shape) 0 [⟨⟨1, ![1]⟩, x⟩, ⟨⟨1, ![1]⟩, y⟩, ⟨⟨1, ![1]⟩, z⟩] h (ix1 r)
      = ![x (ix1 0), y (ix1 0), z (ix1 0)] r := by
  have e : ∀ (i : (⟨1, ![1]⟩ : Shape).Idx), i = ix1 0 := fun i => by
    rw [eq_ix1 i]; exact congrArg ix1 (Subsingleton.elim (α := Fin 1) _ _)
  fin_cases r <;> concat_tiles i h <;> first | (rw [e i]; rfl) | (exact absurd h (by decide))

/-- Reducing all the absolute values of an array to one entry by the maximum, from minus infinity, gives the
    largest of them. -/
theorem isAmax_reduce {u s t : Shape} {axes : List (Fin s.rank)} (x : FVec Ideal u .f32) (hc : u.ShapeCasts s)
    (h : s.Reduces axes t) (hφ) (hacc) (ht : ∀ b, t.size b = 1) (i₀ : u.Idx) (j : t.Idx) :
    IsAmax x (multiReduction .maximumf axes t (shapeCast s (absf x) hc) 0xFF800000#32 h hφ hacc j) := fun b => by
  have key : multiReduction .maximumf axes t (shapeCast s (absf x) hc) 0xFF800000#32 h hφ hacc j ≤ b ↔
      ∀ i, max (x i) (-(x i)) ≤ b := by
    rw [multiReduction_maximumf_eq_fold]
    refine (Finset.fold_max_le b).trans ?_
    refine (and_iff_right (ofBits_neg_inf.trans_le bot_le)).trans ⟨fun H i => ?_, fun H k _ => H _⟩
    have := H ((Shape.reshapeEquiv hc).symm i) (Finset.mem_filter.2 ⟨Finset.mem_univ _, funext fun b => Fin.ext (by
      have h1 := (h.drop ((Shape.reshapeEquiv hc).symm i) b).isLt; have h2 := (j b).isLt; have := ht b; omega)⟩)
    have e : shapeCast s (absf x) hc ((Shape.reshapeEquiv hc).symm i) = max (x i) (-(x i)) := by
      show absf x ((Shape.reshapeEquiv hc) ((Shape.reshapeEquiv hc).symm i)) = _
      rw [Equiv.apply_symm_apply]
      rfl
    rw [e] at this
    exact this
  rw [key]
  refine ⟨fun H => ⟨?_, H⟩, fun H => H.2⟩
  refine le_trans ?_ (H i₀)
  rcases le_total 0 (x i₀) with h0 | h0
  · exact le_max_of_le_left h0
  · exact le_max_of_le_right (EReal.neg_nonneg.2 h0)

/-- The same for an array that is widened, laid out in the shape it is reduced in, and read back as a number. -/
theorem isAmax_extract {u s t t' : Shape} {axes : List (Fin s.rank)} (x : FVec Ideal u .bf16) (hb) (hc : u.ShapeCasts s)
    (h : s.Reduces axes t) (hφ) (hacc) (ht : ∀ b, t.size b = 1) (i₀ : u.Idx) (hc' : t.ShapeCasts t')
    (pos : Fin t'.rank → ℕ) (hp : ∀ a, pos a < t'.size a) :
    IsAmax (ι := u.Idx) x (extractAt pos (shapeCast t' (multiReduction (F := Ideal) .maximumf axes t
      (shapeCast s (absf (extf .f32 x hb)) hc) 0xFF800000#32 h hφ hacc) hc') hp) :=
  isAmax_reduce (extf .f32 x hb) hc h hφ hacc ht i₀ _

end Cert.Spec

end
-- ==== Proof.KRun.lean ====
/-
  The kernel's run, read: every fair run of the four calls ends with each result array holding what the
  fold through the program leaves in it (`Gen.W6`), and with the arguments as launched.
-/
module

public import proofs.«01_k».proof.Proof.Gen.KernelIdeal.Frame

@[expose] public section

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair run from any memory ends with the seven result arrays as the fold `W6` gives them and the
    arguments unchanged. -/
theorem run_fold : θ_run defs (onTc (τ := τ) (main (F := F))) ⟨m, fun _ => 0, ρ⟩ (fun r => ∀ c : Dev nD,
      r.2.mem ((c : Thread nD τ).loc main_v20) = W6 m ρ c (Proc.devRef .tc main_v20)
      ∧ r.2.mem ((c : Thread nD τ).loc main_v21) = W6 m ρ c (Proc.devRef .tc main_v21)
      ∧ r.2.mem ((c : Thread nD τ).loc main_v6) = W6 m ρ c (Proc.devRef .tc main_v6)
      ∧ r.2.mem ((c : Thread nD τ).loc main_v22) = W6 m ρ c (Proc.devRef .tc main_v22)
      ∧ r.2.mem ((c : Thread nD τ).loc main_v3_0) = W6 m ρ c (Proc.devRef .tc main_v3_0)
      ∧ r.2.mem ((c : Thread nD τ).loc main_v23) = W6 m ρ c (Proc.devRef .tc main_v23)
      ∧ r.2.mem ((c : Thread nD τ).loc main_v19) = W6 m ρ c (Proc.devRef .tc main_v19)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨h c _ (mem_uc main_v20 (by decide)),
       h c _ (mem_uc main_v21 (by decide)),
       h c _ (mem_uc main_v6 (by decide)),
       h c _ (mem_uc main_v22 (by decide)),
       h c _ (mem_uc main_v3_0 (by decide)),
       h c _ (mem_uc main_v23 (by decide)),
       h c _ (mem_uc main_v19 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.KV

end
-- ==== Proof.KFold.lean ====
/-
  The kernel's results as functions of its arguments: what the host steps before, between and after the four
  calls make of what each call leaves.
-/
module

public import proofs.«01_k».proof.Proof.KReg0
public import proofs.«01_k».proof.Proof.KReg1
public import proofs.«01_k».proof.Proof.KReg2
public import proofs.«01_k».proof.Proof.KReg3
public import proofs.«01_k».proof.Proof.KHist
public import proofs.«01_k».proof.Proof.KRun

@[expose] public section

set_option maxRecDepth 16384

noncomputable section

namespace Cert.KernelIdeal.KV

open Cert.KernelIdeal Cert.KernelIdeal.Gen Cert.Spec
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg)

/-! ### Rows: batch and sequence laid out as one axis -/

/-- Position `s` of batch entry `b` as a row. -/
abbrev row (b : Fin 6) (s : Fin 4096) : Fin 24576 := ⟨b.val * 4096 + s.val, by omega⟩

/-- Every row is one position of one batch entry. -/
def rowEquiv : Fin 6 × Fin 4096 ≃ Fin 24576 where
  toFun p := row p.1 p.2
  invFun r := (⟨r.val / 4096, by omega⟩, ⟨r.val % 4096, by omega⟩)
  left_inv p := by
    refine Prod.ext (Fin.ext ?_) (Fin.ext ?_)
    · show (p.1.val * 4096 + p.2.val) / 4096 = p.1.val; omega
    · show (p.1.val * 4096 + p.2.val) % 4096 = p.2.val; omega
  right_inv r := Fin.ext (by show r.val / 4096 * 4096 + r.val % 4096 = r.val; omega)

/-- A sum over rows is a sum over batch entries and positions. -/
theorem sum_rows (f : Fin 24576 → EReal) : ∑ r, f r = ∑ b : Fin 6, ∑ s : Fin 4096, f (row b s) := by
  rw [← rowEquiv.sum_comp f, Fintype.sum_prod_type]
  rfl

/-- Every row is `row b s` for some `b` and `s`. -/
theorem exists_row (r : Fin 24576) : ∃ b s, r = row b s :=
  ⟨(rowEquiv.symm r).1, (rowEquiv.symm r).2, (rowEquiv.apply_symm_apply r).symm⟩

/-- Flattening batch and sequence, at an index. -/
theorem flat_x (x : A3 6 4096 6400) (b : Fin 6) (s : Fin 4096) (k : Fin 6400) :
    shapeCast S24576x6400 x shapeCasts_S6x4096x6400_S24576x6400 (ix2 (row b s) k) = x (ix3 b s k) := by
  pointwise [row]
theorem flat_dy (x : A3 6 4096 3712) (b : Fin 6) (s : Fin 4096) (k : Fin 3712) :
    shapeCast S24576x3712 x shapeCasts_S6x4096x3712_S24576x3712 (ix2 (row b s) k) = x (ix3 b s k) := by
  pointwise [row]
theorem flat_g (x : A1 6400) (k : Fin 6400) :
    shapeCast S1x6400 x shapeCasts_S6400_S1x6400 (ix2 0 k) = x (ix1 k) := by
  pointwise

/-- Splitting rows back into batch and sequence, at an index. -/
theorem split_k (x : A2 24576 6400) (b : Fin 6) (s : Fin 4096) (k : Fin 6400) :
    shapeCast S6x4096x6400 x shapeCasts_S24576x6400_S6x4096x6400 (ix3 b s k) = x (ix2 (row b s) k) := by
  pointwise
theorem split_n (x : A2 24576 3712) (b : Fin 6) (s : Fin 4096) (k : Fin 3712) :
    shapeCast S6x4096x3712 x shapeCasts_S24576x3712_S6x4096x3712 (ix3 b s k) = x (ix2 (row b s) k) := by
  pointwise

/-! ### What the calls find -/

/-- The flattened activations, incoming gradient and gains, before the first call. -/
theorem W1_v0 (c : Dev nD) : W1 m ρ c (Proc.devRef .tc main_v0) =
    shapeCast S24576x6400 (m ((c : Thread nD τ).loc main_arg0)) shapeCasts_S6x4096x6400_S24576x6400 := by
  show StableHlo.after hostOps0 (W0 m ρ c) (Proc.devRef .tc main_v0) = _
  unfold_abbrev_sides
  after_results
  rfl
theorem W1_v1 (c : Dev nD) : W1 m ρ c (Proc.devRef .tc main_v1) =
    shapeCast S24576x3712 (m ((c : Thread nD τ).loc main_arg3)) shapeCasts_S6x4096x3712_S24576x3712 := by
  show StableHlo.after hostOps0 (W0 m ρ c) (Proc.devRef .tc main_v1) = _
  unfold_abbrev_sides
  after_results
  rfl
theorem W1_v2 (c : Dev nD) : W1 m ρ c (Proc.devRef .tc main_v2) =
    shapeCast S1x6400 (m ((c : Thread nD τ).loc main_arg1)) shapeCasts_S6400_S1x6400 := by
  show StableHlo.after hostOps0 (W0 m ρ c) (Proc.devRef .tc main_v2) = _
  unfold_abbrev_sides
  after_results
  rfl

/-- The codes of the weight, after the first call. -/
theorem W2_wq (c : Dev nD) : W2 m ρ c (Proc.devRef .tc main_v3_0) = wcodes (m ((c : Thread nD τ).loc main_arg6)) (m ((c : Thread nD τ).loc main_arg2)) := by
  refine (W2_arr m ρ c 2).trans ((codes0 (V1 m ρ) c).trans ?_)
  rw [show V1 m ρ c main_arg6 = _ from W1_args m ρ c main_arg6 (by decide +kernel),
    show V1 m ρ c main_arg2 = _ from W1_args m ρ c main_arg2 (by decide +kernel)]

/-- The flattened activations and gains, at the second call. -/
theorem V2_v0 (c : Dev nD) : V2 m ρ c main_v0 = shapeCast S24576x6400 (m ((c : Thread nD τ).loc main_arg0)) shapeCasts_S6x4096x6400_S24576x6400 :=
  (W2_of m ρ c main_v0 (by decide +kernel)).trans (W1_v0 m ρ c)
theorem V2_v2 (c : Dev nD) : V2 m ρ c main_v2 = shapeCast S1x6400 (m ((c : Thread nD τ).loc main_arg1)) shapeCasts_S6400_S1x6400 :=
  (W2_of m ρ c main_v2 (by decide +kernel)).trans (W1_v2 m ρ c)
theorem V2_arg5 (c : Dev nD) : V2 m ρ c main_arg5 = (m ((c : Thread nD τ).loc main_arg5)) := W2_args m ρ c main_arg5 (by decide +kernel)
theorem V2_arg6 (c : Dev nD) : V2 m ρ c main_arg6 = (m ((c : Thread nD τ).loc main_arg6)) := W2_args m ρ c main_arg6 (by decide +kernel)
theorem V2_wq (c : Dev nD) : V2 m ρ c main_v3_0 = wcodes (m ((c : Thread nD τ).loc main_arg6)) (m ((c : Thread nD τ).loc main_arg2)) := W2_wq m ρ c

/-- The flattened incoming gradient and the weight's codes, at the third call. -/
theorem V3_v1 (c : Dev nD) : V3 m ρ c main_v1 = shapeCast S24576x3712 (m ((c : Thread nD τ).loc main_arg3)) shapeCasts_S6x4096x3712_S24576x3712 :=
  (W3_of m ρ c main_v1 (by decide +kernel)).trans ((W2_of m ρ c main_v1 (by decide +kernel)).trans (W1_v1 m ρ c))
theorem V3_wq (c : Dev nD) : V3 m ρ c main_v3_0 = wcodes (m ((c : Thread nD τ).loc main_arg6)) (m ((c : Thread nD τ).loc main_arg2)) :=
  (W3_of m ρ c main_v3_0 (by decide +kernel)).trans (W2_wq m ρ c)
theorem V3_arg5 (c : Dev nD) : V3 m ρ c main_arg5 = (m ((c : Thread nD τ).loc main_arg5)) := W3_args m ρ c main_arg5 (by decide +kernel)
theorem V3_arg6 (c : Dev nD) : V3 m ρ c main_arg6 = (m ((c : Thread nD τ).loc main_arg6)) := W3_args m ρ c main_arg6 (by decide +kernel)

/-! ### What the calls leave -/

/-- The codes of the activations, flattened. -/
abbrev XQ (c : Dev nD) : A2 24576 6400 :=
  xcodes (m ((c : Thread nD τ).loc main_arg6)) (shapeCast S24576x6400 (m ((c : Thread nD τ).loc main_arg0)) shapeCasts_S6x4096x6400_S24576x6400) (shapeCast S1x6400 (m ((c : Thread nD τ).loc main_arg1)) shapeCasts_S6400_S1x6400)
/-- The codes of the incoming gradient, flattened. -/
abbrev GQ (c : Dev nD) : A2 24576 3712 :=
  dycodes (m ((c : Thread nD τ).loc main_arg6)) (shapeCast S24576x3712 (m ((c : Thread nD τ).loc main_arg3)) shapeCasts_S6x4096x3712_S24576x3712)

theorem W3_xq (c : Dev nD) : W3 m ρ c (Proc.devRef .tc main_v4_1) = XQ m c := by
  refine (W3_arr m ρ c 6).trans ((codes1 (V2 m ρ) c).trans ?_)
  rw [V2_arg6, V2_v0, V2_v2]
theorem W3_y (c : Dev nD) : W3 m ρ c (Proc.devRef .tc main_v4_0) = yout (m ((c : Thread nD τ).loc main_arg5)) (XQ m c) (wcodes (m ((c : Thread nD τ).loc main_arg6)) (m ((c : Thread nD τ).loc main_arg2))) := by
  refine (W3_arr m ρ c 5).trans ((y1 (V2 m ρ) c).trans ?_)
  rw [V2_arg5, V2_arg6, V2_v0, V2_v2, V2_wq]
theorem W4_gq (c : Dev nD) : W4 m ρ c (Proc.devRef .tc main_v5_1) = GQ m c := by
  refine (W4_arr m ρ c 5).trans ((codes2 (V3 m ρ) c).trans ?_)
  rw [V3_arg6, V3_v1]
theorem W4_dx (c : Dev nD) : W4 m ρ c (Proc.devRef .tc main_v5_0) = dxout (m ((c : Thread nD τ).loc main_arg5)) (GQ m c) (wcodes (m ((c : Thread nD τ).loc main_arg6)) (m ((c : Thread nD τ).loc main_arg2))) := by
  refine (W4_arr m ρ c 4).trans ((dx2 (V3 m ρ) c).trans ?_)
  rw [V3_arg5, V3_arg6, V3_v1, V3_wq]
theorem V4_xq (c : Dev nD) : V4 m ρ c main_v4_1 = XQ m c :=
  (W4_of m ρ c main_v4_1 (by decide +kernel)).trans (W3_xq m ρ c)
theorem V4_gq (c : Dev nD) : V4 m ρ c main_v5_1 = GQ m c := W4_gq m ρ c
theorem V4_arg5 (c : Dev nD) : V4 m ρ c main_arg5 = (m ((c : Thread nD τ).loc main_arg5)) := W4_args m ρ c main_arg5 (by decide +kernel)
theorem W5_dw (c : Dev nD) : W5 m ρ c (Proc.devRef .tc main_v6) = dwout (m ((c : Thread nD τ).loc main_arg5)) (XQ m c) (GQ m c) := by
  refine (W5_arr m ρ c 3).trans ((dw3 (V4 m ρ) c).trans ?_)
  rw [V4_arg5, V4_xq, V4_gq]

/-! ### The results -/

/-- The normalised rows of the flattened activations. -/
theorem hrows_at (x : A3 6 4096 6400) (g : A1 6400) (b : Fin 6) (s : Fin 4096) (k : Fin 6400) :
    hrows (shapeCast S24576x6400 x shapeCasts_S6x4096x6400_S24576x6400) (shapeCast S1x6400 g shapeCasts_S6400_S1x6400) (row b s) k
      = hAt x g b s k := by
  show rms _ _ k = rms _ _ k
  congr 1
  · exact funext fun l => flat_x x b s l
  · exact funext fun l => flat_g g l

theorem XQ_at (c : Dev nD) (b : Fin 6) (s : Fin 4096) (k : Fin 6400) :
    XQ m c (ix2 (row b s) k) = xqAt (m ((c : Thread nD τ).loc main_arg6)) (m ((c : Thread nD τ).loc main_arg0)) (m ((c : Thread nD τ).loc main_arg1)) b s k :=
  congrArg (fun z => clip448 (z * _)) (hrows_at _ _ b s k)

theorem GQ_at (c : Dev nD) (b : Fin 6) (s : Fin 4096) (n : Fin 3712) :
    GQ m c (ix2 (row b s) n) = gqAt (m ((c : Thread nD τ).loc main_arg6)) (m ((c : Thread nD τ).loc main_arg3)) b s n :=
  congrArg (fun z => clip57344 (z * _)) (flat_dy _ b s n)

/-- The forward product. -/
theorem K_y (c : Dev nD) (b : Fin 6) (s : Fin 4096) (n : Fin 3712) :
    (W6 m ρ c (Proc.devRef .tc main_v20) : A3 6 4096 3712) (ix3 b s n) = yAt (m ((c : Thread nD τ).loc main_arg5)) (m ((c : Thread nD τ).loc main_arg6)) (m ((c : Thread nD τ).loc main_arg0)) (m ((c : Thread nD τ).loc main_arg1)) (m ((c : Thread nD τ).loc main_arg2)) b s n := by
  have e : W6 m ρ c (Proc.devRef .tc main_v20) =
      shapeCast S6x4096x3712 (W5 m ρ c (Proc.devRef .tc main_v4_0)) shapeCasts_S24576x3712_S6x4096x3712 := by
    show StableHlo.after hostOps4 (W5 m ρ c) (Proc.devRef .tc main_v20) = _
    generalize W5 m ρ c = σ
    unfold_abbrev_sides
    after_results
    rfl
  rw [e, (W5_of m ρ c main_v4_0 (by decide +kernel)).trans ((W4_of m ρ c main_v4_0 (by decide +kernel)).trans (W3_y m ρ c))]
  refine (split_n _ b s n).trans ?_
  exact congrArg (fun z => z * _) (Finset.sum_congr rfl fun k _ => congrArg (fun z => z * _) (XQ_at m c b s k))

/-- The gradient in the input. -/
theorem K_dx (c : Dev nD) (b : Fin 6) (s : Fin 4096) (k : Fin 6400) :
    (W6 m ρ c (Proc.devRef .tc main_v21) : A3 6 4096 6400) (ix3 b s k) = dxAt (m ((c : Thread nD τ).loc main_arg5)) (m ((c : Thread nD τ).loc main_arg6)) (m ((c : Thread nD τ).loc main_arg2)) (m ((c : Thread nD τ).loc main_arg3)) b s k := by
  have e : W6 m ρ c (Proc.devRef .tc main_v21) =
      shapeCast S6x4096x6400 (W5 m ρ c (Proc.devRef .tc main_v5_0)) shapeCasts_S24576x6400_S6x4096x6400 := by
    show StableHlo.after hostOps4 (W5 m ρ c) (Proc.devRef .tc main_v21) = _
    generalize W5 m ρ c = σ
    unfold_abbrev_sides
    after_results
    rfl
  rw [e, (W5_of m ρ c main_v5_0 (by decide +kernel)).trans (W4_dx m ρ c)]
  refine (split_k _ b s k).trans ?_
  exact congrArg (fun z => z * _) (Finset.sum_congr rfl fun n _ => congrArg (fun z => z * _) (GQ_at m c b s n))

/-- The weight gradient's product at an index, its sum over rows given. -/
theorem dwout_at (sc : A1 3) (xc : A2 24576 6400) (gc : A2 24576 3712) (k : Fin 6400) (n : Fin 3712) (S : EReal)
    (e : ∑ r : Fin 24576, xc (ix2 r k) * gc (ix2 r n) = S) : dwout sc xc gc (ix2 k n) = S * (sc (ix1 0) * sc (ix1 2)) := by
  subst e
  first | (pointwise [dwout]; done) | (simp only [dwout, ix2_0, ix2_1]; done) | rfl

/-- The gradient in the weight. -/
theorem K_dw (c : Dev nD) (k : Fin 6400) (n : Fin 3712) :
    (W6 m ρ c (Proc.devRef .tc main_v6) : A2 6400 3712) (ix2 k n) = dwAt (m ((c : Thread nD τ).loc main_arg5)) (m ((c : Thread nD τ).loc main_arg6)) (m ((c : Thread nD τ).loc main_arg0)) (m ((c : Thread nD τ).loc main_arg1)) (m ((c : Thread nD τ).loc main_arg3)) k n := by
  rw [(W6_of m ρ c main_v6 (by decide +kernel)).trans (W5_dw m ρ c)]
  have e : ∑ r : Fin 24576, XQ m c (ix2 r k) * GQ m c (ix2 r n)
      = ∑ b : Fin 6, ∑ s : Fin 4096, xqAt (m ((c : Thread nD τ).loc main_arg6)) (m ((c : Thread nD τ).loc main_arg0)) (m ((c : Thread nD τ).loc main_arg1)) b s k * gqAt (m ((c : Thread nD τ).loc main_arg6)) (m ((c : Thread nD τ).loc main_arg3)) b s n :=
    (sum_rows fun r => XQ m c (ix2 r k) * GQ m c (ix2 r n)).trans
      (Finset.sum_congr rfl fun b _ => Finset.sum_congr rfl fun s _ =>
        congrArg₂ (fun y z : EReal => y * z) (XQ_at m c b s k) (GQ_at m c b s n))
  exact dwout_at _ _ _ k n _ e

/-- The codes of the activations. -/
theorem K_xq (c : Dev nD) (b : Fin 6) (s : Fin 4096) (k : Fin 6400) :
    (W6 m ρ c (Proc.devRef .tc main_v22) : A3 6 4096 6400) (ix3 b s k) = xqAt (m ((c : Thread nD τ).loc main_arg6)) (m ((c : Thread nD τ).loc main_arg0)) (m ((c : Thread nD τ).loc main_arg1)) b s k := by
  have e : W6 m ρ c (Proc.devRef .tc main_v22) =
      shapeCast S6x4096x6400 (W5 m ρ c (Proc.devRef .tc main_v4_1)) shapeCasts_S24576x6400_S6x4096x6400 := by
    show StableHlo.after hostOps4 (W5 m ρ c) (Proc.devRef .tc main_v22) = _
    generalize W5 m ρ c = σ
    unfold_abbrev_sides
    after_results
    rfl
  rw [e, (W5_of m ρ c main_v4_1 (by decide +kernel)).trans ((W4_of m ρ c main_v4_1 (by decide +kernel)).trans (W3_xq m ρ c))]
  exact (split_k _ b s k).trans (XQ_at m c b s k)

/-- The codes of the weight. -/
theorem K_wq (c : Dev nD) (k : Fin 6400) (n : Fin 3712) :
    (W6 m ρ c (Proc.devRef .tc main_v3_0) : A2 6400 3712) (ix2 k n) = wqAt (m ((c : Thread nD τ).loc main_arg6)) (m ((c : Thread nD τ).loc main_arg2)) k n := by
  rw [(W6_of m ρ c main_v3_0 (by decide +kernel)).trans ((W5_of m ρ c main_v3_0 (by decide +kernel)).trans
    ((W4_of m ρ c main_v3_0 (by decide +kernel)).trans (V3_wq m ρ c)))]

/-- The codes of the incoming gradient. -/
theorem K_gq (c : Dev nD) (b : Fin 6) (s : Fin 4096) (n : Fin 3712) :
    (W6 m ρ c (Proc.devRef .tc main_v23) : A3 6 4096 3712) (ix3 b s n) = gqAt (m ((c : Thread nD τ).loc main_arg6)) (m ((c : Thread nD τ).loc main_arg3)) b s n := by
  have e : W6 m ρ c (Proc.devRef .tc main_v23) =
      shapeCast S6x4096x3712 (W5 m ρ c (Proc.devRef .tc main_v5_1)) shapeCasts_S24576x3712_S6x4096x3712 := by
    show StableHlo.after hostOps4 (W5 m ρ c) (Proc.devRef .tc main_v23) = _
    generalize W5 m ρ c = σ
    unfold_abbrev_sides
    after_results
    rfl
  rw [e, (W5_of m ρ c main_v5_1 (by decide +kernel)).trans (W4_gq m ρ c)]
  exact (split_n _ b s n).trans (GQ_at m c b s n)

/-! ### The history -/

/-- A corner entry of a tile, taken out and spread over a single entry. -/
abbrev corner (t : A2 8 128) : A1 1 :=
  broadcastInDim S1 ![] bcast_S_S1 (shapeCast S_ (extractStridedSlice S1x1 ![0, 0] t slices_S8x128_S1x1_0_0) shapeCasts_S1x1_S_)

/-- A history from three tiles and an old history: the corners of the tiles are its first column. -/
def histOf (x y z : A2 8 128) (old : A2 3 16) : A2 3 16 :=
  concatenate S3x16 1 [⟨S3x1, broadcastInDim S3x1 ![0] bcast_S3_S3x1_0 (concatenate S3 0
      [⟨S1, corner x⟩, ⟨S1, corner y⟩, ⟨S1, corner z⟩] concatenates_S1_S1_S1_S3_d0)⟩,
    ⟨S3x15, extractStridedSlice S3x15 ![0, 0] old slices_S3x16_S3x15_0_0⟩] concatenates_S3x1_S3x15_S3x16_d1

theorem corner_at (t : A2 8 128) : corner t (ix1 0) = t (ix2 0 0) := by
  pointwise [corner]

theorem histOf_first (x y z : A2 8 128) (old : A2 3 16) (r : Fin 3) :
    histOf x y z old (ix2 r 0) = ![corner x (ix1 0), corner y (ix1 0), corner z (ix1 0)] r := by
  unfold histOf
  rw [first_col]
  refine (broadcastInDim_apply ![0] bcast_S3_S3x1_0 _ (ix2 r 0) (ix1 r) ?_).trans (three_at _ _ _ _ r)
  intro a
  fin_cases a
  rfl

theorem histOf_0 (x y z : A2 8 128) (old : A2 3 16) : histOf x y z old (ix2 0 0) = x (ix2 0 0) :=
  (histOf_first x y z old 0).trans (corner_at x)
theorem histOf_1 (x y z : A2 8 128) (old : A2 3 16) : histOf x y z old (ix2 1 0) = y (ix2 0 0) :=
  (histOf_first x y z old 1).trans (corner_at y)
theorem histOf_2 (x y z : A2 8 128) (old : A2 3 16) : histOf x y z old (ix2 2 0) = z (ix2 0 0) :=
  (histOf_first x y z old 2).trans (corner_at z)

theorem histOf_later (x y z : A2 8 128) (old : A2 3 16) (r : Fin 3) (l : Fin 15) :
    histOf x y z old (ix2 r l.succ) = old (ix2 r l.castSucc) := by
  unfold histOf
  rw [later_col]
  exact extractStridedSlice_apply _ _ _ _ (ix2 r l.castSucc) (fun b => by fin_cases b <;> simp)

/-- The history is made of the corners of the tiles the first three calls leave, and the old history. -/
theorem W6_hist (c : Dev nD) : W6 m ρ c (Proc.devRef .tc main_v19) =
    histOf (W5 m ρ c (Proc.devRef .tc main_v4_2)) (W5 m ρ c (Proc.devRef .tc main_v3_1)) (W5 m ρ c (Proc.devRef .tc main_v5_2))
      (W5 m ρ c (Proc.devRef .tc main_arg4)) := by
  unfold histOf corner
  show StableHlo.after hostOps4 (W5 m ρ c) (Proc.devRef .tc main_v19) = _
  generalize W5 m ρ c = σ
  unfold_abbrev_sides
  after_results
  beta_reduce
  rfl

/-- The tiles hold the largest absolute values. -/
theorem tile_act (c : Dev nD) : IsAmax (fun p : Fin 6 × Fin 4096 × Fin 6400 => hAt (m ((c : Thread nD τ).loc main_arg0)) (m ((c : Thread nD τ).loc main_arg1)) p.1 p.2.1 p.2.2)
    ((W5 m ρ c (Proc.devRef .tc main_v4_2) : A2 8 128) (ix2 0 0)) := by
  rw [(W5_of m ρ c main_v4_2 (by decide +kernel)).trans ((W4_of m ρ c main_v4_2 (by decide +kernel)).trans (W3_arr m ρ c 7))]
  have h := amax1 (V2 m ρ) c (ix2 0 0)
  rw [V2_v0, V2_v2] at h
  refine h.comp (fun i => ?_) fun p => ⟨(row p.1 p.2.1, p.2.2), (hrows_at _ _ _ _ _).symm⟩
  obtain ⟨b, s, e⟩ := exists_row i.1
  exact ⟨(b, s, i.2), by rw [e]; exact hrows_at _ _ _ _ _⟩

theorem tile_wt (c : Dev nD) : IsAmax (fun p : Fin 6400 × Fin 3712 => (m ((c : Thread nD τ).loc main_arg2)) (ix2 p.1 p.2))
    ((W5 m ρ c (Proc.devRef .tc main_v3_1) : A2 8 128) (ix2 0 0)) := by
  rw [(W5_of m ρ c main_v3_1 (by decide +kernel)).trans ((W4_of m ρ c main_v3_1 (by decide +kernel)).trans
    ((W3_of m ρ c main_v3_1 (by decide +kernel)).trans (W2_arr m ρ c 3)))]
  have h := amax0 (V1 m ρ) c (ix2 0 0)
  rw [show V1 m ρ c main_arg2 = _ from W1_args m ρ c main_arg2 (by decide +kernel)] at h
  exact h

theorem tile_grad (c : Dev nD) : IsAmax (fun p : Fin 6 × Fin 4096 × Fin 3712 => (m ((c : Thread nD τ).loc main_arg3)) (ix3 p.1 p.2.1 p.2.2))
    ((W5 m ρ c (Proc.devRef .tc main_v5_2) : A2 8 128) (ix2 0 0)) := by
  rw [(W5_of m ρ c main_v5_2 (by decide +kernel)).trans (W4_arr m ρ c 6)]
  have h := amax2 (V3 m ρ) c (ix2 0 0)
  rw [V3_v1] at h
  refine h.comp (fun i => ?_) fun p => ⟨(row p.1 p.2.1, p.2.2), (flat_dy _ _ _ _).symm⟩
  obtain ⟨b, s, e⟩ := exists_row i.1
  exact ⟨(b, s, i.2), by rw [e]; exact flat_dy _ _ _ _⟩

/-- The history meets the conditions that determine it. -/
theorem K_hist (c : Dev nD) : IsHist (m ((c : Thread nD τ).loc main_arg0)) (m ((c : Thread nD τ).loc main_arg1)) (m ((c : Thread nD τ).loc main_arg2)) (m ((c : Thread nD τ).loc main_arg3)) (m ((c : Thread nD τ).loc main_arg4)) (W6 m ρ c (Proc.devRef .tc main_v19)) := by
  rw [W6_hist, show W5 m ρ c (Proc.devRef .tc main_arg4) = _ from W5_args m ρ c main_arg4 (by decide +kernel)]
  refine ⟨?_, ?_, ?_, histOf_later _ _ _ _⟩
  · rw [histOf_0]; exact tile_act m ρ c
  · rw [histOf_1]; exact tile_wt m ρ c
  · rw [histOf_2]; exact tile_grad m ρ c

end Cert.KernelIdeal.KV

end
-- ==== Proof.RVal.lean ====
/-
  The reference's seven results, as functions of its arguments: six of them at an index, and the history
  by the conditions that determine it.
-/
module

public import proofs.«01_k».proof.Proof.KHist
public import proofs.«01_k».proof.Proof.Gen.ReferenceIdeal.Value

@[expose] public section

set_option maxRecDepth 16384

noncomputable section

namespace Cert.ReferenceIdeal.RV

open Cert.ReferenceIdeal Cert.ReferenceIdeal.Gen Cert.ReferenceIdeal.Value Cert.Spec
open Idealize.ShloMosaic Idealize.ShloMosaic.TcCoe Idealize.ShloMosaic.Tactic
open Idealize.SL.Sem
open Idealize.ShloMosaic.Pipeline (Dat)

variable (a0 : A3 6 4096 6400) (a1 : A1 6400) (a2 : A2 6400 3712) (a3 : A3 6 4096 3712) (a4 : A2 3 16) (a5 a6 : A1 3)

/-- The normalised activations. -/
theorem h_at (a0 : A3 6 4096 6400) (a1 : A1 6400) (b : Fin 6) (s : Fin 4096) (k : Fin 6400) :
    k0_pay5 (F := Ideal) a0 a1 (ix3 b s k) = hAt a0 a1 b s k := by
  pointwise [k0_pay5, hAt, rms]

/-- The codes of the normalised activations, read from the whole argument arrays. -/
theorem pay14_eq : k0_pay14 (F := Ideal) a0 a1 a2 a3 a4 a5 a6 = k0_pay6 a0 a1 a6 := by
  unfold k0_pay14
  rw [View.ld_unit_zero (Val := Elt Ideal) (e := .bf16) (S := S6x4096x6400) hz0 _ a0, View.ld_unit_zero (Val := Elt Ideal) (e := .bf16) (S := S6400) hz1 _ a1, View.ld_unit_zero (Val := Elt Ideal) (e := .f32) (S := S3) hz5 _ a6]

/-- The weight, read from the whole argument array. -/
theorem pay15_eq : k0_pay15 (F := Ideal) a0 a1 a2 a3 a4 a5 a6 = k0_pay8 a2 := by
  unfold k0_pay15
  rw [View.ld_unit_zero (Val := Elt Ideal) (e := .bf16) (S := S6400x3712) hz2 _ a2]

/-- The codes of the normalised activations at an index. -/
theorem xq_at (b : Fin 6) (s : Fin 4096) (k : Fin 6400) :
    k0_pay6 (F := Ideal) a0 a1 a6 (ix3 b s k) = xqAt a6 a0 a1 b s k := by
  pointwise [k0_pay6, k0_pay5, xqAt, hAt, rms, clip448]

/-- The forward product at an index. -/
theorem G7_at (b : Fin 6) (s : Fin 4096) (n : Fin 3712) :
    G7 (F := Ideal) a0 a1 a2 a3 a4 a5 a6 (ix3 b s n) = yAt a5 a6 a0 a1 a2 b s n := by
  unfold G7
  rw [pay14_eq, pay15_eq]
  pointwise [k0_pay11, k0_pay9, k0_pay8, k0_pay7, k0_pay2, k0_pay3, xq_at, yAt, wqAt, clip448]

/-- The gradient in the input at an index. -/
theorem G8_at (b : Fin 6) (s : Fin 4096) (k : Fin 6400) :
    G8 (F := Ideal) a0 a1 a2 a3 a4 a5 a6 (ix3 b s k) = dxAt a5 a6 a2 a3 b s k := by
  unfold G8
  rw [pay15_eq]
  pointwise [k0_pay12, k0_pay10, k0_pay9, k0_pay8, k0_pay7, k0_pay3, k0_pay4, dxAt, wqAt, gqAt, clip448, clip57344]

/-- The gradient in the weight at an index. -/
theorem G9_at (k : Fin 6400) (n : Fin 3712) :
    G9 (F := Ideal) a0 a1 a2 a3 a4 a5 a6 (ix2 k n) = dwAt a5 a6 a0 a1 a3 k n := by
  unfold G9
  rw [pay14_eq]
  pointwise [k0_pay13, k0_pay10, k0_pay2, k0_pay4, xq_at, dwAt, gqAt, clip57344]

/-- The codes of the activations at an index. -/
theorem G10_at (b : Fin 6) (s : Fin 4096) (k : Fin 6400) :
    G10 (F := Ideal) a0 a1 a2 a3 a4 a5 a6 (ix3 b s k) = xqAt a6 a0 a1 b s k := by
  unfold G10
  rw [pay14_eq, xq_at]

/-- The codes of the weight at an index. -/
theorem G11_at (k : Fin 6400) (n : Fin 3712) :
    G11 (F := Ideal) a0 a1 a2 a3 a4 a5 a6 (ix2 k n) = wqAt a6 a2 k n := by
  unfold G11
  rw [pay15_eq]
  pointwise [k0_pay9, k0_pay8, k0_pay7, wqAt, clip448]

/-- The codes of the incoming gradient at an index. -/
theorem G12_at (b : Fin 6) (s : Fin 4096) (n : Fin 3712) :
    G12 (F := Ideal) a0 a1 a2 a3 a4 a5 a6 (ix3 b s n) = gqAt a6 a3 b s n := by
  unfold G12
  pointwise [k0_pay10, gqAt, clip57344]

/-- A history from three numbers and an old history: the numbers are its first column. -/
def histOf (x y z : EReal) (old : A2 3 16) : A2 3 16 :=
  concatenate S3x16 1 [⟨S3x1, shapeCast S3x1 (concatenate S3 0 [⟨S1, broadcast S1 x⟩, ⟨S1, broadcast S1 y⟩, ⟨S1, broadcast S1 z⟩]
      concatenates_S1_S1_S1_S3_d0) shapeCasts_S3_S3x1⟩,
    ⟨S3x15, extractStridedSlice S3x15 ![0, 0] old slices_S3x16_o0_0_S3x15⟩] concatenates_S3x1_S3x15_S3x16_d1

/-- Its first column. -/
theorem histOf_first (x y z : EReal) (old : A2 3 16) (r : Fin 3) : histOf x y z old (ix2 r 0) = ![x, y, z] r := by
  unfold histOf
  rw [first_col]
  refine (shapeCast_apply _ _ (ix2 r 0) (ix1 r) ?_).trans ?_
  · fin_cases r <;> rfl
  · exact three_at _ _ _ _ r

/-- The three entries of the first column by name. -/
theorem histOf_0 (x y z : EReal) (old : A2 3 16) : histOf x y z old (ix2 0 0) = x := histOf_first x y z old 0
theorem histOf_1 (x y z : EReal) (old : A2 3 16) : histOf x y z old (ix2 1 0) = y := histOf_first x y z old 1
theorem histOf_2 (x y z : EReal) (old : A2 3 16) : histOf x y z old (ix2 2 0) = z := histOf_first x y z old 2

/-- Its later columns. -/
theorem histOf_later (x y z : EReal) (old : A2 3 16) (r : Fin 3) (l : Fin 15) :
    histOf x y z old (ix2 r l.succ) = old (ix2 r l.castSucc) := by
  unfold histOf
  rw [later_col]
  exact extractStridedSlice_apply _ _ _ _ (ix2 r l.castSucc) (fun b => by fin_cases b <;> simp)

/-- The largest absolute value as the reference takes it, of an array like the activations. -/
def amaxAct (h : FVec Ideal S6x4096x6400 .bf16) : EReal :=
  extractAt ![0, 0, 0, 0] (shapeCast S1x1x1x1 (multiReduction (F := Ideal) .maximumf [1, 2, 3] S1
    (shapeCast S1x6x4096x6400 (absf (extf .f32 h bitsLt_bf16_f32)) shapeCasts_S6x4096x6400_S1x6x4096x6400)
    0xFF800000#32 reduces_S1x6x4096x6400_S1 (.inl rfl) rfl) shapeCasts_S1_S1x1x1x1) inpos_S1x1x1x1_p0_0_0_0

/-- The same of an array like the weight. -/
def amaxWt (w : FVec Ideal S6400x3712 .bf16) : EReal :=
  extractAt ![0, 0, 0] (shapeCast S1x1x1 (multiReduction (F := Ideal) .maximumf [1, 2] S1
    (shapeCast S1x6400x3712 (absf (extf .f32 w bitsLt_bf16_f32)) shapeCasts_S6400x3712_S1x6400x3712)
    0xFF800000#32 reduces_S1x6400x3712_S1 (.inl rfl) rfl) shapeCasts_S1_S1x1x1) inpos_S1x1x1_p0_0_0

/-- The same of an array like the incoming gradient. -/
def amaxGrad (dy : FVec Ideal S6x4096x3712 .bf16) : EReal :=
  extractAt ![0, 0, 0, 0] (shapeCast S1x1x1x1 (multiReduction (F := Ideal) .maximumf [1, 2, 3] S1
    (shapeCast S1x6x4096x3712 (absf (extf .f32 dy bitsLt_bf16_f32)) shapeCasts_S6x4096x3712_S1x6x4096x3712)
    0xFF800000#32 reduces_S1x6x4096x3712_S1 (.inl rfl) rfl) shapeCasts_S1_S1x1x1x1) inpos_S1x1x1x1_p0_0_0_0

/-- There is one entry to reduce to. -/
theorem size_S1 (b : Fin S1.rank) : S1.size b = 1 := by fin_cases b; rfl

theorem isAmax_act (h : FVec Ideal S6x4096x6400 .bf16) : IsAmax (ι := S6x4096x6400.Idx) h (amaxAct h) := by
  unfold amaxAct
  exact isAmax_extract h _ _ _ _ _ size_S1 (Shape.Idx.first (by decide +kernel)) _ _ _

theorem isAmax_wt (w : FVec Ideal S6400x3712 .bf16) : IsAmax (ι := S6400x3712.Idx) w (amaxWt w) := by
  unfold amaxWt
  exact isAmax_extract w _ _ _ _ _ size_S1 (Shape.Idx.first (by decide +kernel)) _ _ _

theorem isAmax_grad (dy : FVec Ideal S6x4096x3712 .bf16) : IsAmax (ι := S6x4096x3712.Idx) dy (amaxGrad dy) := by
  unfold amaxGrad
  exact isAmax_extract dy _ _ _ _ _ size_S1 (Shape.Idx.first (by decide +kernel)) _ _ _

/-- The history the reference writes, from the normalised activations, the weight and the incoming gradient. -/
theorem pay1_eq (w : FVec Ideal S6400x3712 .bf16) (dy : FVec Ideal S6x4096x3712 .bf16) (old : FVec Ideal S3x16 .f32)
    (h : FVec Ideal S6x4096x6400 .bf16) : k0_pay1 (F := Ideal) w dy old h = histOf (amaxAct h) (amaxWt w) (amaxGrad dy) old := by
  unfold k0_pay1 histOf amaxAct amaxWt amaxGrad
  rfl

/-- The history meets the conditions that determine it. -/
theorem G13_hist : IsHist a0 a1 a2 a3 a4 (G13 (F := Ideal) a0 a1 a2 a3 a4 a5 a6) := by
  unfold G13
  rw [pay1_eq]
  refine ⟨?_, ?_, ?_, histOf_later _ _ _ _⟩
  · rw [histOf_0]
    exact (isAmax_act (k0_pay5 (F := Ideal) a0 a1)).comp (fun i => ⟨(i 0, i 1, i 2), (congrArg _ (eq_ix3 i)).trans (h_at a0 a1 (i 0) (i 1) (i 2))⟩)
      fun p => ⟨ix3 p.1 p.2.1 p.2.2, (h_at a0 a1 p.1 p.2.1 p.2.2).symm⟩
  · rw [histOf_1]
    exact (isAmax_wt a2).comp (fun i => ⟨(i 0, i 1), congrArg a2 (eq_ix2 i)⟩) fun p => ⟨ix2 p.1 p.2, rfl⟩
  · rw [histOf_2]
    exact (isAmax_grad a3).comp (fun i => ⟨(i 0, i 1, i 2), congrArg a3 (eq_ix3 i)⟩) fun p => ⟨ix3 p.1 p.2.1 p.2.2, rfl⟩

end Cert.ReferenceIdeal.RV

end
-- ==== Proof.KEq.lean ====
/-
  The equations: each of the kernel's seven results is the reference's, as functions of the arguments.
-/
module

public import proofs.«01_k».proof.Proof.KFold
public import proofs.«01_k».proof.Proof.RVal

@[expose] public section

set_option maxRecDepth 16384

noncomputable section

namespace Cert.Eqs

open Cert.Spec
open Cert.KernelIdeal (nD τ sig main_arg0 main_arg1 main_arg2 main_arg3 main_arg4 main_arg5 main_arg6 main_v20 main_v21 main_v6 main_v22 main_v3_0 main_v23 main_v19)
open Cert.KernelIdeal.Gen (W6)
open Cert.KernelIdeal.KV Cert.ReferenceIdeal.RV Cert.ReferenceIdeal.Value
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg) (c : Dev nD)

/-- The forward product. -/
theorem y_eq : (G7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : A3 6 4096 3712) = W6 m ρ c (Proc.devRef .tc main_v20) := by
  funext i
  rw [eq_ix3 i]
  exact (G7_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2)).trans (K_y m ρ c (i 0) (i 1) (i 2)).symm

/-- The gradient in the input. -/
theorem dx_eq : (G8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : A3 6 4096 6400) = W6 m ρ c (Proc.devRef .tc main_v21) := by
  funext i
  rw [eq_ix3 i]
  exact (G8_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2)).trans (K_dx m ρ c (i 0) (i 1) (i 2)).symm

/-- The gradient in the weight. -/
theorem dw_eq : (G9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : A2 6400 3712) = W6 m ρ c (Proc.devRef .tc main_v6) := by
  funext i
  rw [eq_ix2 i]
  exact (G9_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1)).trans (K_dw m ρ c (i 0) (i 1)).symm

/-- The codes of the activations. -/
theorem xq_eq : (G10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : A3 6 4096 6400) = W6 m ρ c (Proc.devRef .tc main_v22) := by
  funext i
  rw [eq_ix3 i]
  exact (G10_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2)).trans (K_xq m ρ c (i 0) (i 1) (i 2)).symm

/-- The codes of the weight. -/
theorem wq_eq : (G11 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : A2 6400 3712) = W6 m ρ c (Proc.devRef .tc main_v3_0) := by
  funext i
  rw [eq_ix2 i]
  exact (G11_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1)).trans (K_wq m ρ c (i 0) (i 1)).symm

/-- The codes of the incoming gradient. -/
theorem gq_eq : (G12 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : A3 6 4096 3712) = W6 m ρ c (Proc.devRef .tc main_v23) := by
  funext i
  rw [eq_ix3 i]
  exact (G12_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2)).trans (K_gq m ρ c (i 0) (i 1) (i 2)).symm

/-- The history. -/
theorem hist_eq : (G13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : A2 3 16) = W6 m ρ c (Proc.devRef .tc main_v19) :=
  (G13_hist (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).unique (K_hist m ρ c)

end Cert.Eqs

end
-- ==== Proof.ScalesEq.lean ====
/-
  The scales and the inverse scales: the kernel computes them for the three rows of the history at once, the
  reference for one row at a time. Every step after the largest magnitude of a row works on one number, so
  both are the same function of it (`expT`, `powT`); the largest magnitudes agree because both fold the same
  row in the same order.
-/
module

public import proofs.«01_k».proof.Defs
public import proofs.«01_k».proof.Proof.Gen.Scales.Run
public import proofs.«01_k».proof.Proof.Gen.ScalesReference.Run
public import proofs.«01_k».proof.Proof.KHist
public import Idealize.ShloMosaic.Lib.Claim

@[expose] public section

set_option maxRecDepth 16384

noncomputable section

namespace Cert.ScalesEq

open Idealize.ShloMosaic Idealize.ShloMosaic.Tactic Idealize.ShloMosaic.StableHlo
open Idealize.SL.Sem
open Cert.Spec
open Cert.Scales (S_ S1 S3 S3x16)
open Cert.ScalesReference (S16 S1x16)

/-- A single number, as an array of rank zero. -/
abbrev F0 := FVec Bits S_ .f32
/-- A single word, as an array of rank zero. -/
abbrev I0 := IVec S_ 32

/-- The word of a float, a subnormal one replaced by the zero of its sign. -/
def wordT (x : F0) : I0 :=
  bitcastToInt (bitcastToFloat (F := Bits) .f32 (select (cmpi .eq (andi (bitcastToInt x) (constantI S_ 32 2139095040#32)) (constantI S_ 32 0#32)) (andi (bitcastToInt x) (constantI S_ 32 2147483648#32)) (bitcastToInt x)))

/-- The exponent field of a word. -/
def fieldT (w : I0) : I0 := andi (Host.shrui w (constantI S_ 32 23#32)) (constantI S_ 32 255#32)

/-- The exponent `frexp` gives to `p`, and zero where the largest magnitude `a` is zero. -/
def expT (a p : F0) : I0 :=
  select (cmpf .oeq a (constant S_ .f32 0x00000000#32)) (id (constantI S_ 32 0#32)) (select (ori (cmpi .eq (fieldT (wordT p)) (constantI S_ 32 255#32)) (cmpi .eq (fieldT (wordT p)) (constantI S_ 32 0#32))) (constantI S_ 32 0#32) (subi (id (fieldT (wordT p))) (constantI S_ 32 126#32)))

/-- The word of one. -/
def oneT : I0 := wordT (constant S_ .f32 0x3F800000#32)

/-- The exponent field of one, with `n` added. -/
def sumT (n : I0) : I0 :=
  addi (id (fieldT oneT)) (minsi (maxsi n (constantI S_ 32 4294966784#32)) (constantI S_ 32 512#32))

/-- One times two to the power `n`, as `ldexp` computes it. -/
def powT (n : I0) : F0 :=
  bitcastToFloat (F := Bits) .f32 (select (cmpi .eq (fieldT oneT) (constantI S_ 32 255#32)) oneT (select (cmpi .eq (fieldT oneT) (constantI S_ 32 0#32)) (andi oneT (constantI S_ 32 2147483648#32)) (select (cmpi .sle (sumT n) (constantI S_ 32 0#32)) (andi oneT (constantI S_ 32 2147483648#32)) (select (cmpi .sge (sumT n) (constantI S_ 32 255#32)) (ori (andi oneT (constantI S_ 32 2147483648#32)) (constantI S_ 32 2139095040#32)) (ori (ori (andi oneT (constantI S_ 32 2147483648#32)) (Host.shli (id (sumT n)) (constantI S_ 32 23#32))) (andi oneT (constantI S_ 32 8388607#32)))))))

/-- Entry `r` of three, taken out as a single number. -/
theorem one_at (x : FVec Bits S3 .f32) (r : Nat) (hr : r < 3) (hs : S3.Slices ![r] S1) (hc : S1.ShapeCasts S_) (j : S_.Idx) :
    shapeCast S_ (extractStridedSlice S1 ![r] x hs) hc j = x (ix1 ⟨r, hr⟩) := by
  pointwise []

/-- Row `r` taken out of the history and laid flat. -/
theorem row_at (x : FVec Bits S3x16 .f32) (r : Nat) (hr : r < 3) (hs : S3x16.Slices ![r, 0] S1x16) (hc : S1x16.ShapeCasts S16) (l : Fin 16) :
    shapeCast S16 (extractStridedSlice S1x16 ![r, 0] x hs) hc (ix1 l) = x (ix2 ⟨r, hr⟩ l) := by
  pointwise []

/-- Three single numbers set in a row, read at each place. -/
theorem stack_at (x y z : F0) (hb : S_.BroadcastsInDim S1 (![] : Fin 0 → Fin 1)) (h : Shape.Concatenates [S1, S1, S1] S3 0) (r : Fin 3) (j : S_.Idx) :
    concatenate S3 0 [⟨S1, (broadcastInDim S1 ![] hb x : FVec Bits S1 .f32)⟩, ⟨S1, (broadcastInDim S1 ![] hb y : FVec Bits S1 .f32)⟩, ⟨S1, (broadcastInDim S1 ![] hb z : FVec Bits S1 .f32)⟩] h (ix1 r)
      = ![x j, y j, z j] r := by
  have e : ∀ (w : F0) (i : S1.Idx), broadcastInDim S1 ![] hb w i = w j := fun w i =>
    congrArg w (Subsingleton.elim _ _)
  fin_cases r <;> concat_tiles i h <;> first | (exact e _ i) | (exact absurd h (by decide))

section Kernel
open Cert.Scales.Gen Cert.Scales.Value

variable (V : Valuation Cert.Scales.τ Cert.Scales.sig (Elt Bits)) (i : S3.Idx) (j : S_.Idx)

/-- The kernel's largest magnitudes, over the largest value of each format. -/
def ratioK : FVec Bits S3 .f32 := mulf (res_main_v0 V) (fun i => FloatOps.ofBits .f32 (Cert.Scales.lit0 (S3.rowMajor i)))

/-- The kernel's exponents. -/
theorem k_exp : res_main_v5 V i = expT (fun _ => res_main_v0 V i) (fun _ => ratioK V i) j := rfl

/-- The kernel's scales. -/
theorem k_scale : res_main_v6 V i = powT (fun _ => res_main_v5 V i) j := rfl

/-- The kernel's inverse scales. -/
theorem k_inv : (val1 V (Proc.devRef .tc Cert.Scales.main_v8) : FVec Bits S3 .f32) i = powT (negi fun _ => res_main_v5 V i) j := by
  rw [val1_main_v8]; rfl

/-- The kernel's three scales as single numbers. -/
theorem k_one0 : (val1 V (Proc.devRef .tc Cert.Scales.main_v10) : F0) j = res_main_v6 V (ix1 0) := by
  rw [val1_main_v10]; exact one_at (res_main_v6 V) 0 (by decide) _ _ j
theorem k_one1 : (val1 V (Proc.devRef .tc Cert.Scales.main_v12) : F0) j = res_main_v6 V (ix1 1) := by
  rw [val1_main_v12]; exact one_at (res_main_v6 V) 1 (by decide) _ _ j
theorem k_one2 : (val1 V (Proc.devRef .tc Cert.Scales.main_v14) : F0) j = res_main_v6 V (ix1 2) := by
  rw [val1_main_v14]; exact one_at (res_main_v6 V) 2 (by decide) _ _ j

end Kernel

/-- The places of row `r`, in order. -/
theorem row_places (r : Fin 3) : (((List.finRange S3x16.numel).map S3x16.rowMajor.symm).filter
      fun i => (by decide : S3x16.ReducesTo [1] S3).drop i = ix1 r) = (List.finRange 16).map (fun l => ix2 r l) := by
  revert r; decide +kernel

/-- The places of one row, in order. -/
theorem all_places (j : S_.Idx) : (((List.finRange S16.numel).map S16.rowMajor.symm).filter
      fun i => (by decide : S16.ReducesTo [0] S_).drop i = j) = (List.finRange 16).map (fun l => ix1 l) := by
  revert j; decide +kernel

/-- Folding row `r` of an array gives what folding that row alone does. -/
theorem fold_eq (x : FVec Bits S3x16 .f32) (y : FVec Bits S16 .f32) (r : Fin 3) (j : S_.Idx)
    (h : S3x16.ReducesTo [1] S3) (h' : S16.ReducesTo [0] S_) (hu : 0 < S_.numel)
    (hxy : ∀ l : Fin 16, y (ix1 l) = x (ix2 r l)) (init : F0) :
    Host.reduce FloatOps.maximumf x init h hu (ix1 r) = Host.reduce FloatOps.maximumf y init h' hu j := by
  rw [Host.reduce_eq_foldl, Host.reduce_eq_foldl, row_places, all_places, List.foldl_map, List.foldl_map]
  simp only [hxy]

section Reference
open Cert.ScalesReference.Gen Cert.ScalesReference.Value

variable (V : Valuation Cert.ScalesReference.τ Cert.ScalesReference.sig (Elt Bits)) (r : Fin 3) (j : S_.Idx)

/-- The reference's exponents. -/
theorem r_exp0 : res_main_v6 V = expT (res_main_v2 V) (mulf (res_main_v2 V) (constant S_ .f32 0x3B124925#32)) := rfl
theorem r_exp1 : res_main_v16 V = expT (res_main_v12 V) (mulf (res_main_v12 V) (constant S_ .f32 0x3B124925#32)) := rfl
theorem r_exp2 : res_main_v26 V = expT (res_main_v22 V) (mulf (res_main_v22 V) (constant S_ .f32 0x37924925#32)) := rfl

/-- The reference's scales, as single numbers. -/
theorem r_one0 : (val1 V (Proc.devRef .tc Cert.ScalesReference.main_v7) : F0) = powT (res_main_v6 V) := by
  rw [val1_main_v7]; rfl
theorem r_one1 : (val1 V (Proc.devRef .tc Cert.ScalesReference.main_v17) : F0) = powT (res_main_v16 V) := by
  rw [val1_main_v17]; rfl
theorem r_one2 : (val1 V (Proc.devRef .tc Cert.ScalesReference.main_v27) : F0) = powT (res_main_v26 V) := by
  rw [val1_main_v27]; rfl

/-- The reference's scales in a row. -/
theorem r_scale : (val1 V (Proc.devRef .tc Cert.ScalesReference.main_v33) : FVec Bits S3 .f32) (ix1 r)
    = ![powT (res_main_v6 V) j, powT (res_main_v16 V) j, powT (res_main_v26 V) j] r := by
  rw [val1_main_v33]
  exact stack_at (powT (res_main_v6 V)) (powT (res_main_v16 V)) (powT (res_main_v26 V)) _ _ r j

/-- The reference's inverse scales in a row. -/
theorem r_inv : (val1 V (Proc.devRef .tc Cert.ScalesReference.main_v37) : FVec Bits S3 .f32) (ix1 r)
    = ![powT (negi (res_main_v6 V)) j, powT (negi (res_main_v16 V)) j, powT (negi (res_main_v26 V)) j] r := by
  rw [val1_main_v37]
  exact stack_at (powT (negi (res_main_v6 V))) (powT (negi (res_main_v16 V))) (powT (negi (res_main_v26 V))) _ _ r j

end Reference

section Both
variable (V : Valuation Cert.Scales.τ Cert.Scales.sig (Elt Bits)) (V' : Valuation Cert.ScalesReference.τ Cert.ScalesReference.sig (Elt Bits))
  (hV : (V' (Proc.devRef .tc Cert.ScalesReference.main_arg0) : FVec Bits S3x16 .f32) = V (Proc.devRef .tc Cert.Scales.main_arg0))
include hV

/-- The largest magnitudes of the three rows. -/
theorem amax0 (j : S_.Idx) : Cert.Scales.Value.res_main_v0 V (ix1 0) = Cert.ScalesReference.Value.res_main_v2 V' j :=
  fold_eq _ _ 0 j _ _ _ (fun l => (row_at _ 0 (by decide) _ _ l).trans (congrFun hV _)) _
theorem amax1 (j : S_.Idx) : Cert.Scales.Value.res_main_v0 V (ix1 1) = Cert.ScalesReference.Value.res_main_v12 V' j :=
  fold_eq _ _ 1 j _ _ _ (fun l => (row_at _ 1 (by decide) _ _ l).trans (congrFun hV _)) _
theorem amax2 (j : S_.Idx) : Cert.Scales.Value.res_main_v0 V (ix1 2) = Cert.ScalesReference.Value.res_main_v22 V' j :=
  fold_eq _ _ 2 j _ _ _ (fun l => (row_at _ 2 (by decide) _ _ l).trans (congrFun hV _)) _

/-- The exponents of the three rows. -/
theorem exp0 : (fun _ : S_.Idx => Cert.Scales.Value.res_main_v5 V (ix1 0)) = Cert.ScalesReference.Value.res_main_v6 V' := by
  funext j
  rw [k_exp V (ix1 0) j, r_exp0]
  exact congrArg (fun a : F0 => expT a (mulf a (constant S_ .f32 0x3B124925#32)) j) (funext fun j => amax0 V V' hV j)
theorem exp1 : (fun _ : S_.Idx => Cert.Scales.Value.res_main_v5 V (ix1 1)) = Cert.ScalesReference.Value.res_main_v16 V' := by
  funext j
  rw [k_exp V (ix1 1) j, r_exp1]
  exact congrArg (fun a : F0 => expT a (mulf a (constant S_ .f32 0x3B124925#32)) j) (funext fun j => amax1 V V' hV j)
theorem exp2 : (fun _ : S_.Idx => Cert.Scales.Value.res_main_v5 V (ix1 2)) = Cert.ScalesReference.Value.res_main_v26 V' := by
  funext j
  rw [k_exp V (ix1 2) j, r_exp2]
  exact congrArg (fun a : F0 => expT a (mulf a (constant S_ .f32 0x37924925#32)) j) (funext fun j => amax2 V V' hV j)

/-- The five results. -/
theorem one0 : (Cert.ScalesReference.Value.val1 V' (Proc.devRef .tc Cert.ScalesReference.main_v7) : F0) = Cert.Scales.Value.val1 V (Proc.devRef .tc Cert.Scales.main_v10) := by
  funext j
  rw [k_one0 V j, k_scale V (ix1 0) j, exp0 V V' hV, r_one0]
theorem one1 : (Cert.ScalesReference.Value.val1 V' (Proc.devRef .tc Cert.ScalesReference.main_v17) : F0) = Cert.Scales.Value.val1 V (Proc.devRef .tc Cert.Scales.main_v12) := by
  funext j
  rw [k_one1 V j, k_scale V (ix1 1) j, exp1 V V' hV, r_one1]
theorem one2 : (Cert.ScalesReference.Value.val1 V' (Proc.devRef .tc Cert.ScalesReference.main_v27) : F0) = Cert.Scales.Value.val1 V (Proc.devRef .tc Cert.Scales.main_v14) := by
  funext j
  rw [k_one2 V j, k_scale V (ix1 2) j, exp2 V V' hV, r_one2]
theorem scale_eq : (Cert.ScalesReference.Value.val1 V' (Proc.devRef .tc Cert.ScalesReference.main_v33) : FVec Bits S3 .f32) = Cert.Scales.Value.res_main_v6 V := by
  funext i
  obtain ⟨r, rfl⟩ : ∃ r, i = ix1 r := ⟨_, eq_ix1 i⟩
  rw [r_scale V' r (fun b => b.elim0), k_scale V (ix1 r) (fun b => b.elim0)]
  fin_cases r
  · exact congrArg (fun n : I0 => powT n _) (exp0 V V' hV).symm
  · exact congrArg (fun n : I0 => powT n _) (exp1 V V' hV).symm
  · exact congrArg (fun n : I0 => powT n _) (exp2 V V' hV).symm
theorem inv_eq : (Cert.ScalesReference.Value.val1 V' (Proc.devRef .tc Cert.ScalesReference.main_v37) : FVec Bits S3 .f32) = Cert.Scales.Value.val1 V (Proc.devRef .tc Cert.Scales.main_v8) := by
  funext i
  obtain ⟨r, rfl⟩ : ∃ r, i = ix1 r := ⟨_, eq_ix1 i⟩
  rw [r_inv V' r (fun b => b.elim0), k_inv V (ix1 r) (fun b => b.elim0)]
  fin_cases r
  · exact congrArg (fun n : I0 => powT (negi n) _) (exp0 V V' hV).symm
  · exact congrArg (fun n : I0 => powT (negi n) _) (exp1 V V' hV).symm
  · exact congrArg (fun n : I0 => powT (negi n) _) (exp2 V V' hV).symm

end Both

/-- The scales run on any memory, leave the history as it was, and end with every counter at zero. -/
theorem frame_scales : Cert.quiescent_Scales (hScales := Cert.Scales.Gen.facts) := fun m g _ =>
  θ_run_mono (Cert.Scales.Value.run m g) fun r h =>
    ⟨fun c => (h c).2.2.2.2.2, sem_eq_zero_of_no_sems (by decide) r.2⟩

/-- So does the reference. -/
theorem frame_reference : Cert.quiescent_ScalesReference (hScalesReference := Cert.ScalesReference.Gen.facts) := fun m g _ =>
  θ_run_mono (Cert.ScalesReference.Value.run m g) fun r h =>
    ⟨fun c => (h c).2.2.2.2.2, sem_eq_zero_of_no_sems (by decide) r.2⟩

/-- The kernel's scales and the reference's are the same bits. -/
theorem bitexact : Cert.bitexact_Scales_ScalesReference (hScales := Cert.Scales.Gen.facts)
    (hScalesReference := Cert.ScalesReference.Gen.facts) := by
  intro m g m' g' _ hagree
  refine ⟨_, _, _, _, _, Cert.Scales.Value.run m g, θ_run_mono (Cert.ScalesReference.Value.run m' g') fun r h c => ?_⟩
  obtain ⟨h0, h1, h2, h3, h4, ha⟩ := h c
  have e := hagree c
  refine ⟨h0.trans ?_, h1.trans ?_, h2.trans ?_, h3.trans ?_, h4.trans ?_, ha⟩
  · exact (Cert.ScalesReference.Value.val1_main_v7 _).symm.trans ((one0 (launchContents m c) (launchContents m' c) e).trans (Cert.Scales.Value.val1_main_v10 _))
  · exact (Cert.ScalesReference.Value.val1_main_v17 _).symm.trans ((one1 (launchContents m c) (launchContents m' c) e).trans (Cert.Scales.Value.val1_main_v12 _))
  · exact (Cert.ScalesReference.Value.val1_main_v27 _).symm.trans ((one2 (launchContents m c) (launchContents m' c) e).trans (Cert.Scales.Value.val1_main_v14 _))
  · exact (Cert.ScalesReference.Value.val1_main_v33 _).symm.trans (scale_eq (launchContents m c) (launchContents m' c) e)
  · exact (Cert.ScalesReference.Value.val1_main_v37 _).symm.trans ((inv_eq (launchContents m c) (launchContents m' c) e).trans (Cert.Scales.Value.val1_main_v8 _))

end Cert.ScalesEq
-- ==== Proof.lean ====
module

public import proofs.«01_k».proof.Defs
public import proofs.«01_k».proof.Proof.Gen.ReferenceIdeal.Value
public import proofs.«01_k».proof.Proof.Gen.Scales
public import proofs.«01_k».proof.Proof.Gen.Scales.Run
public import proofs.«01_k».proof.Proof.Gen.ScalesReference
public import proofs.«01_k».proof.Proof.Gen.ScalesReference.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KEq
public import proofs.«01_k».proof.Proof.ScalesEq
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel and the reference, floats read as extended reals, end with equal results. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, _, _, _, _, _, _, Cert.KernelIdeal.KV.run_fold m g, θ_run_mono (Cert.ReferenceIdeal.Value.run m' g') fun r h c => ?_⟩
  obtain ⟨e0, e1, e2, e3, e4, e5, e6⟩ := hagree c
  obtain ⟨h0, h1, h2, h3, h4, h5, h6, ha⟩ := h c
  rw [e0, e1, e2, e3, e4, e5, e6] at h0 h1 h2 h3 h4 h5 h6
  exact ⟨h0.trans (Cert.Eqs.y_eq m g c), h1.trans (Cert.Eqs.dx_eq m g c), h2.trans (Cert.Eqs.dw_eq m g c),
    h3.trans (Cert.Eqs.xq_eq m g c), h4.trans (Cert.Eqs.wq_eq m g c), h5.trans (Cert.Eqs.gq_eq m g c),
    h6.trans (Cert.Eqs.hist_eq m g c), ha⟩

theorem claim : Cert.Claim := ⟨Cert.Kernel.Gen.facts, Cert.KernelIdeal.Gen.facts, Cert.ReferenceIdeal.Gen.facts,
    Cert.Scales.Gen.facts, Cert.ScalesReference.Gen.facts,
    fun m g _ => Cert.Kernel.Gen.frame m g, fun m g _ => Cert.KernelIdeal.Gen.frame m g,
    fun m g _ => Cert.ReferenceIdeal.Gen.frame m g, Cert.ScalesEq.frame_scales, Cert.ScalesEq.frame_reference,
    trivial, algebraic, Cert.ScalesEq.bitexact⟩

end Cert.Proof

end
